-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_butterfly_inputs [hPre_butterfly_inputs : Cert.Pre_butterfly_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_butterfly_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_butterfly_inputs [hPre_butterfly_inputs : Cert.Pre_butterfly_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_butterfly_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_butterfly_inputs [hKernelIdeal : Cert.KernelIdeal.Facts] [hPre_butterfly_inputs : Cert.Pre_butterfly_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_butterfly_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_butterfly_inputs [hReferenceIdeal : Cert.ReferenceIdeal.Facts] [hPre_butterfly_inputs : Cert.Pre_butterfly_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_butterfly_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_butterfly_inputs [hKernelIdeal : Cert.KernelIdeal.Facts] [hReferenceIdeal : Cert.ReferenceIdeal.Facts] [hPre_butterfly_inputs : Cert.Pre_butterfly_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_butterfly_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v455) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_butterfly_inputs : Cert.Pre_butterfly_inputs.Facts),
    quiescent_Kernel (hKernel := hKernel)
    ∧ quiescent_KernelIdeal (hKernelIdeal := hKernelIdeal)
    ∧ quiescent_KernelIdeal_pre_butterfly_inputs (hKernelIdeal := hKernelIdeal) (hPre_butterfly_inputs := hPre_butterfly_inputs)
    ∧ quiescent_ReferenceIdeal (hReferenceIdeal := hReferenceIdeal)
    ∧ quiescent_ReferenceIdeal_pre_butterfly_inputs (hReferenceIdeal := hReferenceIdeal) (hPre_butterfly_inputs := hPre_butterfly_inputs)
    ∧ preserves_Kernel_KernelIdeal
    ∧ algebraic_KernelIdeal_ReferenceIdeal_pre_butterfly_inputs (hKernelIdeal := hKernelIdeal) (hReferenceIdeal := hReferenceIdeal) (hPre_butterfly_inputs := hPre_butterfly_inputs)
-- ==== Pre_butterfly_inputs.lean ====
abbrev S8192x4096 : Shape := ⟨2, ![8192, 4096]⟩
abbrev S12x2048 : Shape := ⟨2, ![12, 2048]⟩
abbrev S_ : Shape := ⟨0, ![]⟩
abbrev S5x2048 : Shape := ⟨2, ![5, 2048]⟩

class Facts : Prop where
  bcast_S_S12x2048 : S_.BroadcastsInDim S12x2048 (![] : Fin 0 → Fin S12x2048.rank)
  bcast_S_S8192x4096 : S_.BroadcastsInDim S8192x4096 (![] : Fin 0 → Fin S8192x4096.rank)
  reducesTo_S8192x4096_S_d0_1 : S8192x4096.ReducesTo [0, 1] S_
  h_S_ : 0 < S_.numel
  reducesTo_S12x2048_S_d0_1 : S12x2048.ReducesTo [0, 1] S_
  slices_S12x2048_S5x2048_7_0 : S12x2048.Slices ![7, 0] S5x2048
  bcast_S_S5x2048 : S_.BroadcastsInDim S5x2048 (![] : Fin 0 → Fin S5x2048.rank)
  reducesTo_S5x2048_S_d0_1 : S5x2048.ReducesTo [0, 1] S_

variable [Facts]

def fn_part1 {F : FTy → Type} [FloatOps F] (main_arg1 : FVec F S12x2048 .f32) (main_arg2 : IVec S12x2048 32) (main_arg3 : IVec S12x2048 32) (main_v3 : IVec S12x2048 32) (main_v9 : IVec S12x2048 32) (main_v13 : IVec S_ 1) (main_v16 : IVec S12x2048 1) (main_c_4 : IVec S_ 1) : IVec S_ 1 :=
  let main_v17 : IVec S_ 1 := (fun x v => Host.reduce IntOp.andi x v reducesTo_S12x2048_S_d0_1 h_S_) main_v16 main_c_4
  let main_v18 : IVec S_ 1 := andi main_v13 main_v17
  let main_v19 : FVec F S5x2048 .f32 := (extractStridedSlice S5x2048 ![7, 0] · slices_S12x2048_S5x2048_7_0) main_arg1
  let main_v20 : FVec F S5x2048 .f32 := Host.cos main_v19
  let main_cst_5 : FVec F S_ .f32 := constant S_ .f32 0x00000000#32
  let main_v21 : FVec F S5x2048 .f32 := broadcastInDim S5x2048 ![] bcast_S_S5x2048 main_cst_5
  let main_v22 : IVec S5x2048 1 := cmpf .une main_v20 main_v21
  let main_c_6 : IVec S_ 1 := constantI S_ 1 1#1
  let main_v23 : IVec S_ 1 := (fun x v => Host.reduce IntOp.andi x v reducesTo_S5x2048_S_d0_1 h_S_) main_v22 main_c_6
  let main_v24 : IVec S_ 1 := andi main_v18 main_v23
  let main_v25 : IVec S12x2048 1 := cmpi .eq main_arg2 main_v9
  let main_c_7 : IVec S_ 1 := constantI S_ 1 1#1
  let main_v26 : IVec S_ 1 := (fun x v => Host.reduce IntOp.andi x v reducesTo_S12x2048_S_d0_1 h_S_) main_v25 main_c_7
  let main_v27 : IVec S_ 1 := andi main_v24 main_v26
  let main_v28 : IVec S12x2048 32 := addi main_v9 main_v3
  let main_v29 : IVec S12x2048 1 := cmpi .eq main_arg3 main_v28
  let main_c_8 : IVec S_ 1 := constantI S_ 1 1#1
  let main_v30 : IVec S_ 1 := (fun x v => Host.reduce IntOp.andi x v reducesTo_S12x2048_S_d0_1 h_S_) main_v29 main_c_8
  let main_v31 : IVec S_ 1 := andi main_v27 main_v30
  main_v31

def fn {F : FTy → Type} [FloatOps F] (main_arg0 : FVec F S8192x4096 .f32) (main_arg1 : FVec F S12x2048 .f32) (main_arg2 : IVec S12x2048 32) (main_arg3 : IVec S12x2048 32) : IVec S_ 1 :=
  let main_v0 : IVec S12x2048 32 := iotaInDim S12x2048 32 0
  let main_v1 : IVec S12x2048 32 := iotaInDim S12x2048 32 1
  let main_c : IVec S_ 32 := constantI S_ 32 1#32
  let main_v2 : IVec S12x2048 32 := broadcastInDim S12x2048 ![] bcast_S_S12x2048 main_c
  let main_v3 : IVec S12x2048 32 := Host.shli main_v2 main_v0
  let main_c_0 : IVec S_ 32 := constantI S_ 32 2#32
  let main_v4 : IVec S12x2048 32 := broadcastInDim S12x2048 ![] bcast_S_S12x2048 main_c_0
  let main_v5 : IVec S12x2048 32 := muli main_v4 main_v1
  let main_c_1 : IVec S_ 32 := constantI S_ 32 1#32
  let main_v6 : IVec S12x2048 32 := broadcastInDim S12x2048 ![] bcast_S_S12x2048 main_c_1
  let main_v7 : IVec S12x2048 32 := subi main_v3 main_v6
  let main_v8 : IVec S12x2048 32 := andi main_v1 main_v7
  let main_v9 : IVec S12x2048 32 := subi main_v5 main_v8
  let main_v10 : FVec F S8192x4096 .f32 := Host.absf main_arg0
  let main_cst : FVec F S_ .f32 := constant S_ .f32 0x7F800000#32
  let main_v11 : FVec F S8192x4096 .f32 := broadcastInDim S8192x4096 ![] bcast_S_S8192x4096 main_cst
  let main_v12 : IVec S8192x4096 1 := cmpf .olt main_v10 main_v11
  let main_c_2 : IVec S_ 1 := constantI S_ 1 1#1
  let main_v13 : IVec S_ 1 := (fun x v => Host.reduce IntOp.andi x v reducesTo_S8192x4096_S_d0_1 h_S_) main_v12 main_c_2
  let main_v14 : FVec F S12x2048 .f32 := Host.absf main_arg1
  let main_cst_3 : FVec F S_ .f32 := constant S_ .f32 0x7F800000#32
  let main_v15 : FVec F S12x2048 .f32 := broadcastInDim S12x2048 ![] bcast_S_S12x2048 main_cst_3
  let main_v16 : IVec S12x2048 1 := cmpf .olt main_v14 main_v15
  let main_c_4 : IVec S_ 1 := constantI S_ 1 1#1
  fn_part1 (F := F) main_arg1 main_arg2 main_arg3 main_v3 main_v9 main_v13 main_v16 main_c_4
-- ==== Kernel.lean ====
abbrev S8192x4096 : Shape := ⟨2, ![8192, 4096]⟩
abbrev S12x2048 : Shape := ⟨2, ![12, 2048]⟩
abbrev S1x2048 : Shape := ⟨2, ![1, 2048]⟩
abbrev S2048 : Shape := ⟨1, ![2048]⟩
abbrev S2048x1x1 : Shape := ⟨3, ![2048, 1, 1]⟩
abbrev S2048x2x1 : Shape := ⟨3, ![2048, 2, 1]⟩
abbrev S4096 : Shape := ⟨1, ![4096]⟩
abbrev S1024x1x2 : Shape := ⟨3, ![1024, 1, 2]⟩
abbrev S1024x2x2 : Shape := ⟨3, ![1024, 2, 2]⟩
abbrev S512x1x4 : Shape := ⟨3, ![512, 1, 4]⟩
abbrev S512x2x4 : Shape := ⟨3, ![512, 2, 4]⟩
abbrev S256x1x8 : Shape := ⟨3, ![256, 1, 8]⟩
abbrev S256x2x8 : Shape := ⟨3, ![256, 2, 8]⟩
abbrev S128x1x16 : Shape := ⟨3, ![128, 1, 16]⟩
abbrev S128x2x16 : Shape := ⟨3, ![128, 2, 16]⟩
abbrev S64x1x32 : Shape := ⟨3, ![64, 1, 32]⟩
abbrev S64x2x32 : Shape := ⟨3, ![64, 2, 32]⟩
abbrev S32x1x64 : Shape := ⟨3, ![32, 1, 64]⟩
abbrev S32x2x64 : Shape := ⟨3, ![32, 2, 64]⟩
abbrev S16x1x128 : Shape := ⟨3, ![16, 1, 128]⟩
abbrev S16x2x128 : Shape := ⟨3, ![16, 2, 128]⟩
abbrev S8x1x256 : Shape := ⟨3, ![8, 1, 256]⟩
abbrev S8x2x256 : Shape := ⟨3, ![8, 2, 256]⟩
abbrev S4x1x512 : Shape := ⟨3, ![4, 1, 512]⟩
abbrev S4x2x512 : Shape := ⟨3, ![4, 2, 512]⟩
abbrev S2x1x1024 : Shape := ⟨3, ![2, 1, 1024]⟩
abbrev S2x2x1024 : Shape := ⟨3, ![2, 2, 1024]⟩
abbrev S1x1x2048 : Shape := ⟨3, ![1, 1, 2048]⟩
abbrev S1x2x2048 : Shape := ⟨3, ![1, 2, 2048]⟩
abbrev S1x4096 : Shape := ⟨2, ![1, 4096]⟩
abbrev S12x4096 : Shape := ⟨2, ![12, 4096]⟩
abbrev S7x4096 : Shape := ⟨2, ![7, 4096]⟩
abbrev S7x32x128 : Shape := ⟨3, ![7, 32, 128]⟩
abbrev S5x4096 : Shape := ⟨2, ![5, 4096]⟩
abbrev S32x128x128 : Shape := ⟨3, ![32, 128, 128]⟩
abbrev S1x32x128 : Shape := ⟨3, ![1, 32, 128]⟩
abbrev S32x128 : Shape := ⟨2, ![32, 128]⟩
abbrev S32x1x128 : Shape := ⟨3, ![32, 1, 128]⟩
abbrev S1x128 : Shape := ⟨2, ![1, 128]⟩
abbrev S1x256 : Shape := ⟨2, ![1, 256]⟩
abbrev S1x512 : Shape := ⟨2, ![1, 512]⟩
abbrev S1x1024 : Shape := ⟨2, ![1, 1024]⟩
abbrev S512x4096 : Shape := ⟨2, ![512, 4096]⟩
abbrev S512x128 : Shape := ⟨2, ![512, 128]⟩
abbrev S1x128x128 : Shape := ⟨3, ![1, 128, 128]⟩
abbrev S128x128 : Shape := ⟨2, ![128, 128]⟩
abbrev S512x256 : Shape := ⟨2, ![512, 256]⟩
abbrev S512x512 : Shape := ⟨2, ![512, 512]⟩
abbrev S512x1024 : Shape := ⟨2, ![512, 1024]⟩
abbrev S512x2048 : Shape := ⟨2, ![512, 2048]⟩

abbrev nBuf : Space → Nat
  | .hbm => 84
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S12x2048, .f32⟩
  | .hbm, ⟨2, _⟩ => ⟨S12x2048, .i32⟩
  | .hbm, ⟨3, _⟩ => ⟨S12x2048, .i32⟩
  | .hbm, ⟨4, _⟩ => ⟨S1x2048, .f32⟩
  | .hbm, ⟨5, _⟩ => ⟨S2048, .f32⟩
  | .hbm, ⟨6, _⟩ => ⟨S2048x1x1, .f32⟩
  | .hbm, ⟨7, _⟩ => ⟨S2048x2x1, .f32⟩
  | .hbm, ⟨8, _⟩ => ⟨S4096, .f32⟩
  | .hbm, ⟨9, _⟩ => ⟨S1x2048, .f32⟩
  | .hbm, ⟨10, _⟩ => ⟨S2048, .f32⟩
  | .hbm, ⟨11, _⟩ => ⟨S1024x1x2, .f32⟩
  | .hbm, ⟨12, _⟩ => ⟨S1024x2x2, .f32⟩
  | .hbm, ⟨13, _⟩ => ⟨S4096, .f32⟩
  | .hbm, ⟨14, _⟩ => ⟨S1x2048, .f32⟩
  | .hbm, ⟨15, _⟩ => ⟨S2048, .f32⟩
  | .hbm, ⟨16, _⟩ => ⟨S512x1x4, .f32⟩
  | .hbm, ⟨17, _⟩ => ⟨S512x2x4, .f32⟩
  | .hbm, ⟨18, _⟩ => ⟨S4096, .f32⟩
  | .hbm, ⟨19, _⟩ => ⟨S1x2048, .f32⟩
  | .hbm, ⟨20, _⟩ => ⟨S2048, .f32⟩
  | .hbm, ⟨21, _⟩ => ⟨S256x1x8, .f32⟩
  | .hbm, ⟨22, _⟩ => ⟨S256x2x8, .f32⟩
  | .hbm, ⟨23, _⟩ => ⟨S4096, .f32⟩
  | .hbm, ⟨24, _⟩ => ⟨S1x2048, .f32⟩
  | .hbm, ⟨25, _⟩ => ⟨S2048, .f32⟩
  | .hbm, ⟨26, _⟩ => ⟨S128x1x16, .f32⟩
  | .hbm, ⟨27, _⟩ => ⟨S128x2x16, .f32⟩
  | .hbm, ⟨28, _⟩ => ⟨S4096, .f32⟩
  | .hbm, ⟨29, _⟩ => ⟨S1x2048, .f32⟩
  | .hbm, ⟨30, _⟩ => ⟨S2048, .f32⟩
  | .hbm, ⟨31, _⟩ => ⟨S64x1x32, .f32⟩
  | .hbm, ⟨32, _⟩ => ⟨S64x2x32, .f32⟩
  | .hbm, ⟨33, _⟩ => ⟨S4096, .f32⟩
  | .hbm, ⟨34, _⟩ => ⟨S1x2048, .f32⟩
  | .hbm, ⟨35, _⟩ => ⟨S2048, .f32⟩
  | .hbm, ⟨36, _⟩ => ⟨S32x1x64, .f32⟩
  | .hbm, ⟨37, _⟩ => ⟨S32x2x64, .f32⟩
  | .hbm, ⟨38, _⟩ => ⟨S4096, .f32⟩
  | .hbm, ⟨39, _⟩ => ⟨S1x2048, .f32⟩
  | .hbm, ⟨40, _⟩ => ⟨S2048, .f32⟩
  | .hbm, ⟨41, _⟩ => ⟨S16x1x128, .f32⟩
  | .hbm, ⟨42, _⟩ => ⟨S16x2x128, .f32⟩
  | .hbm, ⟨43, _⟩ => ⟨S4096, .f32⟩
  | .hbm, ⟨44, _⟩ => ⟨S1x2048, .f32⟩
  | .hbm, ⟨45, _⟩ => ⟨S2048, .f32⟩
  | .hbm, ⟨46, _⟩ => ⟨S8x1x256, .f32⟩
  | .hbm, ⟨47, _⟩ => ⟨S8x2x256, .f32⟩
  | .hbm, ⟨48, _⟩ => ⟨S4096, .f32⟩
  | .hbm, ⟨49, _⟩ => ⟨S1x2048, .f32⟩
  | .hbm, ⟨50, _⟩ => ⟨S2048, .f32⟩
  | .hbm, ⟨51, _⟩ => ⟨S4x1x512, .f32⟩
  | .hbm, ⟨52, _⟩ => ⟨S4x2x512, .f32⟩
  | .hbm, ⟨53, _⟩ => ⟨S4096, .f32⟩
  | .hbm, ⟨54, _⟩ => ⟨S1x2048, .f32⟩
  | .hbm, ⟨55, _⟩ => ⟨S2048, .f32⟩
  | .hbm, ⟨56, _⟩ => ⟨S2x1x1024, .f32⟩
  | .hbm, ⟨57, _⟩ => ⟨S2x2x1024, .f32⟩
  | .hbm, ⟨58, _⟩ => ⟨S4096, .f32⟩
  | .hbm, ⟨59, _⟩ => ⟨S1x2048, .f32⟩
  | .hbm, ⟨60, _⟩ => ⟨S2048, .f32⟩
  | .hbm, ⟨61, _⟩ => ⟨S1x1x2048, .f32⟩
  | .hbm, ⟨62, _⟩ => ⟨S1x2x2048, .f32⟩
  | .hbm, ⟨63, _⟩ => ⟨S4096, .f32⟩
  | .hbm, ⟨64, _⟩ => ⟨S1x4096, .f32⟩
  | .hbm, ⟨65, _⟩ => ⟨S1x4096, .f32⟩
  | .hbm, ⟨66, _⟩ => ⟨S1x4096, .f32⟩
  | .hbm, ⟨67, _⟩ => ⟨S1x4096, .f32⟩
  | .hbm, ⟨68, _⟩ => ⟨S1x4096, .f32⟩
  | .hbm, ⟨69, _⟩ => ⟨S1x4096, .f32⟩
  | .hbm, ⟨70, _⟩ => ⟨S1x4096, .f32⟩
  | .hbm, ⟨71, _⟩ => ⟨S1x4096, .f32⟩
  | .hbm, ⟨72, _⟩ => ⟨S1x4096, .f32⟩
  | .hbm, ⟨73, _⟩ => ⟨S1x4096, .f32⟩
  | .hbm, ⟨74, _⟩ => ⟨S1x4096, .f32⟩
  | .hbm, ⟨75, _⟩ => ⟨S1x4096, .f32⟩
  | .hbm, ⟨76, _⟩ => ⟨S12x4096, .f32⟩
  | .hbm, ⟨77, _⟩ => ⟨S7x4096, .f32⟩
  | .hbm, ⟨78, _⟩ => ⟨S7x32x128, .f32⟩
  | .hbm, ⟨79, _⟩ => ⟨S5x4096, .f32⟩
  | .hbm, ⟨80, _⟩ => ⟨S32x128x128, .f32⟩
  | .hbm, ⟨81, _⟩ => ⟨S5x4096, .f32⟩
  | .hbm, ⟨82, _⟩ => ⟨S1x4096, .f32⟩
  | .hbm, ⟨83, _⟩ => ⟨S8192x4096, .f32⟩
  | .local _ .vmem, ⟨0, _⟩ => ⟨S7x32x128, .f32⟩
  | .local _ .vmem, ⟨1, _⟩ => ⟨S5x4096, .f32⟩
  | .local _ .vmem, ⟨2, _⟩ => ⟨S32x128x128, .f32⟩
  | .local _ .vmem, ⟨3, _⟩ => ⟨S5x4096, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | .local _ .vmem, ⟨7, _⟩ => ⟨S32x128x128, .f32⟩
  | .local _ .vmem, ⟨8, _⟩ => ⟨S5x4096, .f32⟩
  | .local _ .vmem, ⟨9, _⟩ => ⟨S1x4096, .f32⟩
  | .local _ .vmem, ⟨10, _⟩ => ⟨S512x4096, .f32⟩
  | .local _ .vmem, ⟨11, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76_0 : Ref sig .tc := ⟨.hbm, 80, rfl⟩
abbrev main_v76_1 : Ref sig .tc := ⟨.hbm, 81, rfl⟩
abbrev main_v76_2 : Ref sig .tc := ⟨.hbm, 82, rfl⟩
abbrev main_v77 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := .none

abbrev stage0_0 : Fin 1 → Memref sig .tc .vmem S7x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S5x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S8192x4096 : Shape := ⟨2, ![8192, 4096]⟩
abbrev S12x2048 : Shape := ⟨2, ![12, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S8192x2048 : Shape := ⟨2, ![8192, 2048]⟩

abbrev nBuf : Space → Nat
  | .hbm => 1048
  | .vmem => 0
  | .smem => 0
  | _ => 0

abbrev hbmTy0_0 (i : Nat) : BufTy := match i % 128 with
  | 0 => ⟨S8192x4096, .f32⟩
  | 1 => ⟨S12x2048, .f32⟩
  | 2 => ⟨S12x2048, .i32⟩
  | 3 => ⟨S12x2048, .i32⟩
  | 4 => ⟨S1x2048, .i32⟩
  | 5 => ⟨S2048, .i32⟩
  | 6 => ⟨S1x2048, .i32⟩
  | 7 => ⟨S2048, .i32⟩
  | 8 => ⟨S1x2048, .f32⟩
  | 9 => ⟨S2048, .f32⟩
  | 10 => ⟨S2048, .f32⟩
  | 11 => ⟨S1x2048, .f32⟩
  | 12 => ⟨S2048, .f32⟩
  | 13 => ⟨S1x2048, .f32⟩
  | 14 => ⟨S_, .i32⟩
  | 15 => ⟨S2048, .i32⟩
  | 16 => ⟨S2048, .i1⟩
  | 17 => ⟨S_, .i32⟩
  | 18 => ⟨S2048, .i32⟩
  | 19 => ⟨S2048, .i32⟩
  | 20 => ⟨S2048, .i32⟩
  | 21 => ⟨S2048x1, .i32⟩
  | 22 => ⟨S1, .i32⟩
  | 23 => ⟨S_, .i32⟩
  | 24 => ⟨S2048x1, .i32⟩
  | 25 => ⟨S2048x1, .i1⟩
  | 26 => ⟨S1x1, .i32⟩
  | 27 => ⟨S2048x1, .i32⟩
  | 28 => ⟨S2048x1, .i1⟩
  | 29 => ⟨S2048x1, .i1⟩
  | 30 => ⟨S_, .i1⟩
  | 31 => ⟨S2048, .i1⟩
  | 32 => ⟨S8192x2048, .f32⟩
  | 33 => ⟨S8192x2048, .i1⟩
  | 34 => ⟨S_, .f32⟩
  | 35 => ⟨S8192x2048, .f32⟩
  | 36 => ⟨S8192x2048, .f32⟩
  | 37 => ⟨S_, .i32⟩
  | 38 => ⟨S2048, .i32⟩
  | 39 => ⟨S2048, .i1⟩
  | 40 => ⟨S_, .i32⟩
  | 41 => ⟨S2048, .i32⟩
  | 42 => ⟨S2048, .i32⟩
  | 43 => ⟨S2048, .i32⟩
  | 44 => ⟨S2048x1, .i32⟩
  | 45 => ⟨S1, .i32⟩
  | 46 => ⟨S_, .i32⟩
  | 47 => ⟨S2048x1, .i32⟩
  | 48 => ⟨S2048x1, .i1⟩
  | 49 => ⟨S1x1, .i32⟩
  | 50 => ⟨S2048x1, .i32⟩
  | 51 => ⟨S2048x1, .i1⟩
  | 52 => ⟨S2048x1, .i1⟩
  | 53 => ⟨S_, .i1⟩
  | 54 => ⟨S2048, .i1⟩
  | 55 => ⟨S8192x2048, .f32⟩
  | 56 => ⟨S8192x2048, .i1⟩
  | 57 => ⟨S_, .f32⟩
  | 58 => ⟨S8192x2048, .f32⟩
  | 59 => ⟨S8192x2048, .f32⟩
  | 60 => ⟨S8192x2048, .f32⟩
  | 61 => ⟨S8192x2048, .f32⟩
  | 62 => ⟨S8192x2048, .f32⟩
  | 63 => ⟨S8192x2048, .f32⟩
  | 64 => ⟨S8192x2048, .f32⟩
  | 65 => ⟨S8192x2048, .f32⟩
  | 66 => ⟨S8192x2048, .f32⟩
  | 67 => ⟨S8192x2048, .f32⟩
  | 68 => ⟨S8192x2048, .f32⟩
  | 69 => ⟨S8192x2048, .f32⟩
  | 70 => ⟨S8192x2048, .f32⟩
  | 71 => ⟨S_, .f32⟩
  | 72 => ⟨S8192x4096, .f32⟩
  | 73 => ⟨S_, .i32⟩
  | 74 => ⟨S2048, .i32⟩
  | 75 => ⟨S2048, .i1⟩
  | 76 => ⟨S_, .i32⟩
  | 77 => ⟨S2048, .i32⟩
  | 78 => ⟨S2048, .i32⟩
  | 79 => ⟨S2048, .i32⟩
  | 80 => ⟨S2048x1, .i32⟩
  | 81 => ⟨S8192x4096, .f32⟩
  | 82 => ⟨S_, .i32⟩
  | 83 => ⟨S2048, .i32⟩
  | 84 => ⟨S2048, .i1⟩
  | 85 => ⟨S_, .i32⟩
  | 86 => ⟨S2048, .i32⟩
  | 87 => ⟨S2048, .i32⟩
  | 88 => ⟨S2048, .i32⟩
  | 89 => ⟨S2048x1, .i32⟩
  | 90 => ⟨S8192x4096, .f32⟩
  | 91 => ⟨S1x2048, .i32⟩
  | 92 => ⟨S2048, .i32⟩
  | 93 => ⟨S1x2048, .i32⟩
  | 94 => ⟨S2048, .i32⟩
  | 95 => ⟨S1x2048, .f32⟩
  | 96 => ⟨S2048, .f32⟩
  | 97 => ⟨S2048, .f32⟩
  | 98 => ⟨S1x2048, .f32⟩
  | 99 => ⟨S2048, .f32⟩
  | 100 => ⟨S1x2048, .f32⟩
  | 101 => ⟨S_, .i32⟩
  | 102 => ⟨S2048, .i32⟩
  | 103 => ⟨S2048, .i1⟩
  | 104 => ⟨S_, .i32⟩
  | 105 => ⟨S2048, .i32⟩
  | 106 => ⟨S2048, .i32⟩
  | 107 => ⟨S2048, .i32⟩
  | 108 => ⟨S2048x1, .i32⟩
  | 109 => ⟨S1, .i32⟩
  | 110 => ⟨S_, .i32⟩
  | 111 => ⟨S2048x1, .i32⟩
  | 112 => ⟨S2048x1, .i1⟩
  | 113 => ⟨S1x1, .i32⟩
  | 114 => ⟨S2048x1, .i32⟩
  | 115 => ⟨S2048x1, .i1⟩
  | 116 => ⟨S2048x1, .i1⟩
  | 117 => ⟨S_, .i1⟩
  | 118 => ⟨S2048, .i1⟩
  | 119 => ⟨S8192x2048, .f32⟩
  | 120 => ⟨S8192x2048, .i1⟩
  | 121 => ⟨S_, .f32⟩
  | 122 => ⟨S8192x2048, .f32⟩
  | 123 => ⟨S8192x2048, .f32⟩
  | 124 => ⟨S_, .i32⟩
  | 125 => ⟨S2048, .i32⟩
  | 126 => ⟨S2048, .i1⟩
  | 127 => ⟨S_, .i32⟩
  | _ => ⟨S8192x4096, .f32⟩

abbrev hbmTy0_1 (i : Nat) : BufTy := match i % 128 with
  | 0 => ⟨S2048, .i32⟩
  | 1 => ⟨S2048, .i32⟩
  | 2 => ⟨S2048, .i32⟩
  | 3 => ⟨S2048x1, .i32⟩
  | 4 => ⟨S1, .i32⟩
  | 5 => ⟨S_, .i32⟩
  | 6 => ⟨S2048x1, .i32⟩
  | 7 => ⟨S2048x1, .i1⟩
  | 8 => ⟨S1x1, .i32⟩
  | 9 => ⟨S2048x1, .i32⟩
  | 10 => ⟨S2048x1, .i1⟩
  | 11 => ⟨S2048x1, .i1⟩
  | 12 => ⟨S_, .i1⟩
  | 13 => ⟨S2048, .i1⟩
  | 14 => ⟨S8192x2048, .f32⟩
  | 15 => ⟨S8192x2048, .i1⟩
  | 16 => ⟨S_, .f32⟩
  | 17 => ⟨S8192x2048, .f32⟩
  | 18 => ⟨S8192x2048, .f32⟩
  | 19 => ⟨S8192x2048, .f32⟩
  | 20 => ⟨S8192x2048, .f32⟩
  | 21 => ⟨S8192x2048, .f32⟩
  | 22 => ⟨S8192x2048, .f32⟩
  | 23 => ⟨S8192x2048, .f32⟩
  | 24 => ⟨S8192x2048, .f32⟩
  | 25 => ⟨S8192x2048, .f32⟩
  | 26 => ⟨S8192x2048, .f32⟩
  | 27 => ⟨S8192x2048, .f32⟩
  | 28 => ⟨S8192x2048, .f32⟩
  | 29 => ⟨S8192x2048, .f32⟩
  | 30 => ⟨S_, .f32⟩
  | 31 => ⟨S8192x4096, .f32⟩
  | 32 => ⟨S_, .i32⟩
  | 33 => ⟨S2048, .i32⟩
  | 34 => ⟨S2048, .i1⟩
  | 35 => ⟨S_, .i32⟩
  | 36 => ⟨S2048, .i32⟩
  | 37 => ⟨S2048, .i32⟩
  | 38 => ⟨S2048, .i32⟩
  | 39 => ⟨S2048x1, .i32⟩
  | 40 => ⟨S8192x4096, .f32⟩
  | 41 => ⟨S_, .i32⟩
  | 42 => ⟨S2048, .i32⟩
  | 43 => ⟨S2048, .i1⟩
  | 44 => ⟨S_, .i32⟩
  | 45 => ⟨S2048, .i32⟩
  | 46 => ⟨S2048, .i32⟩
  | 47 => ⟨S2048, .i32⟩
  | 48 => ⟨S2048x1, .i32⟩
  | 49 => ⟨S8192x4096, .f32⟩
  | 50 => ⟨S1x2048, .i32⟩
  | 51 => ⟨S2048, .i32⟩
  | 52 => ⟨S1x2048, .i32⟩
  | 53 => ⟨S2048, .i32⟩
  | 54 => ⟨S1x2048, .f32⟩
  | 55 => ⟨S2048, .f32⟩
  | 56 => ⟨S2048, .f32⟩
  | 57 => ⟨S1x2048, .f32⟩
  | 58 => ⟨S2048, .f32⟩
  | 59 => ⟨S1x2048, .f32⟩
  | 60 => ⟨S_, .i32⟩
  | 61 => ⟨S2048, .i32⟩
  | 62 => ⟨S2048, .i1⟩
  | 63 => ⟨S_, .i32⟩
  | 64 => ⟨S2048, .i32⟩
  | 65 => ⟨S2048, .i32⟩
  | 66 => ⟨S2048, .i32⟩
  | 67 => ⟨S2048x1, .i32⟩
  | 68 => ⟨S1, .i32⟩
  | 69 => ⟨S_, .i32⟩
  | 70 => ⟨S2048x1, .i32⟩
  | 71 => ⟨S2048x1, .i1⟩
  | 72 => ⟨S1x1, .i32⟩
  | 73 => ⟨S2048x1, .i32⟩
  | 74 => ⟨S2048x1, .i1⟩
  | 75 => ⟨S2048x1, .i1⟩
  | 76 => ⟨S_, .i1⟩
  | 77 => ⟨S2048, .i1⟩
  | 78 => ⟨S8192x2048, .f32⟩
  | 79 => ⟨S8192x2048, .i1⟩
  | 80 => ⟨S_, .f32⟩
  | 81 => ⟨S8192x2048, .f32⟩
  | 82 => ⟨S8192x2048, .f32⟩
  | 83 => ⟨S_, .i32⟩
  | 84 => ⟨S2048, .i32⟩
  | 85 => ⟨S2048, .i1⟩
  | 86 => ⟨S_, .i32⟩
  | 87 => ⟨S2048, .i32⟩
  | 88 => ⟨S2048, .i32⟩
  | 89 => ⟨S2048, .i32⟩
  | 90 => ⟨S2048x1, .i32⟩
  | 91 => ⟨S1, .i32⟩
  | 92 => ⟨S_, .i32⟩
  | 93 => ⟨S2048x1, .i32⟩
  | 94 => ⟨S2048x1, .i1⟩
  | 95 => ⟨S1x1, .i32⟩
  | 96 => ⟨S2048x1, .i32⟩
  | 97 => ⟨S2048x1, .i1⟩
  | 98 => ⟨S2048x1, .i1⟩
  | 99 => ⟨S_, .i1⟩
  | 100 => ⟨S2048, .i1⟩
  | 101 => ⟨S8192x2048, .f32⟩
  | 102 => ⟨S8192x2048, .i1⟩
  | 103 => ⟨S_, .f32⟩
  | 104 => ⟨S8192x2048, .f32⟩
  | 105 => ⟨S8192x2048, .f32⟩
  | 106 => ⟨S8192x2048, .f32⟩
  | 107 => ⟨S8192x2048, .f32⟩
  | 108 => ⟨S8192x2048, .f32⟩
  | 109 => ⟨S8192x2048, .f32⟩
  | 110 => ⟨S8192x2048, .f32⟩
  | 111 => ⟨S8192x2048, .f32⟩
  | 112 => ⟨S8192x2048, .f32⟩
  | 113 => ⟨S8192x2048, .f32⟩
  | 114 => ⟨S8192x2048, .f32⟩
  | 115 => ⟨S8192x2048, .f32⟩
  | 116 => ⟨S8192x2048, .f32⟩
  | 117 => ⟨S_, .f32⟩
  | 118 => ⟨S8192x4096, .f32⟩
  | 119 => ⟨S_, .i32⟩
  | 120 => ⟨S2048, .i32⟩
  | 121 => ⟨S2048, .i1⟩
  | 122 => ⟨S_, .i32⟩
  | 123 => ⟨S2048, .i32⟩
  | 124 => ⟨S2048, .i32⟩
  | 125 => ⟨S2048, .i32⟩
  | 126 => ⟨S2048x1, .i32⟩
  | 127 => ⟨S8192x4096, .f32⟩
  | _ => ⟨S8192x4096, .f32⟩

abbrev hbmTy0_2 (i : Nat) : BufTy := match i % 128 with
  | 0 => ⟨S_, .i32⟩
  | 1 => ⟨S2048, .i32⟩
  | 2 => ⟨S2048, .i1⟩
  | 3 => ⟨S_, .i32⟩
  | 4 => ⟨S2048, .i32⟩
  | 5 => ⟨S2048, .i32⟩
  | 6 => ⟨S2048, .i32⟩
  | 7 => ⟨S2048x1, .i32⟩
  | 8 => ⟨S8192x4096, .f32⟩
  | 9 => ⟨S1x2048, .i32⟩
  | 10 => ⟨S2048, .i32⟩
  | 11 => ⟨S1x2048, .i32⟩
  | 12 => ⟨S2048, .i32⟩
  | 13 => ⟨S1x2048, .f32⟩
  | 14 => ⟨S2048, .f32⟩
  | 15 => ⟨S2048, .f32⟩
  | 16 => ⟨S1x2048, .f32⟩
  | 17 => ⟨S2048, .f32⟩
  | 18 => ⟨S1x2048, .f32⟩
  | 19 => ⟨S_, .i32⟩
  | 20 => ⟨S2048, .i32⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S1, .i32⟩
  | 28 => ⟨S_, .i32⟩
  | 29 => ⟨S2048x1, .i32⟩
  | 30 => ⟨S2048x1, .i1⟩
  | 31 => ⟨S1x1, .i32⟩
  | 32 => ⟨S2048x1, .i32⟩
  | 33 => ⟨S2048x1, .i1⟩
  | 34 => ⟨S2048x1, .i1⟩
  | 35 => ⟨S_, .i1⟩
  | 36 => ⟨S2048, .i1⟩
  | 37 => ⟨S8192x2048, .f32⟩
  | 38 => ⟨S8192x2048, .i1⟩
  | 39 => ⟨S_, .f32⟩
  | 40 => ⟨S8192x2048, .f32⟩
  | 41 => ⟨S8192x2048, .f32⟩
  | 42 => ⟨S_, .i32⟩
  | 43 => ⟨S2048, .i32⟩
  | 44 => ⟨S2048, .i1⟩
  | 45 => ⟨S_, .i32⟩
  | 46 => ⟨S2048, .i32⟩
  | 47 => ⟨S2048, .i32⟩
  | 48 => ⟨S2048, .i32⟩
  | 49 => ⟨S2048x1, .i32⟩
  | 50 => ⟨S1, .i32⟩
  | 51 => ⟨S_, .i32⟩
  | 52 => ⟨S2048x1, .i32⟩
  | 53 => ⟨S2048x1, .i1⟩
  | 54 => ⟨S1x1, .i32⟩
  | 55 => ⟨S2048x1, .i32⟩
  | 56 => ⟨S2048x1, .i1⟩
  | 57 => ⟨S2048x1, .i1⟩
  | 58 => ⟨S_, .i1⟩
  | 59 => ⟨S2048, .i1⟩
  | 60 => ⟨S8192x2048, .f32⟩
  | 61 => ⟨S8192x2048, .i1⟩
  | 62 => ⟨S_, .f32⟩
  | 63 => ⟨S8192x2048, .f32⟩
  | 64 => ⟨S8192x2048, .f32⟩
  | 65 => ⟨S8192x2048, .f32⟩
  | 66 => ⟨S8192x2048, .f32⟩
  | 67 => ⟨S8192x2048, .f32⟩
  | 68 => ⟨S8192x2048, .f32⟩
  | 69 => ⟨S8192x2048, .f32⟩
  | 70 => ⟨S8192x2048, .f32⟩
  | 71 => ⟨S8192x2048, .f32⟩
  | 72 => ⟨S8192x2048, .f32⟩
  | 73 => ⟨S8192x2048, .f32⟩
  | 74 => ⟨S8192x2048, .f32⟩
  | 75 => ⟨S8192x2048, .f32⟩
  | 76 => ⟨S_, .f32⟩
  | 77 => ⟨S8192x4096, .f32⟩
  | 78 => ⟨S_, .i32⟩
  | 79 => ⟨S2048, .i32⟩
  | 80 => ⟨S2048, .i1⟩
  | 81 => ⟨S_, .i32⟩
  | 82 => ⟨S2048, .i32⟩
  | 83 => ⟨S2048, .i32⟩
  | 84 => ⟨S2048, .i32⟩
  | 85 => ⟨S2048x1, .i32⟩
  | 86 => ⟨S8192x4096, .f32⟩
  | 87 => ⟨S_, .i32⟩
  | 88 => ⟨S2048, .i32⟩
  | 89 => ⟨S2048, .i1⟩
  | 90 => ⟨S_, .i32⟩
  | 91 => ⟨S2048, .i32⟩
  | 92 => ⟨S2048, .i32⟩
  | 93 => ⟨S2048, .i32⟩
  | 94 => ⟨S2048x1, .i32⟩
  | 95 => ⟨S8192x4096, .f32⟩
  | 96 => ⟨S1x2048, .i32⟩
  | 97 => ⟨S2048, .i32⟩
  | 98 => ⟨S1x2048, .i32⟩
  | 99 => ⟨S2048, .i32⟩
  | 100 => ⟨S1x2048, .f32⟩
  | 101 => ⟨S2048, .f32⟩
  | 102 => ⟨S2048, .f32⟩
  | 103 => ⟨S1x2048, .f32⟩
  | 104 => ⟨S2048, .f32⟩
  | 105 => ⟨S1x2048, .f32⟩
  | 106 => ⟨S_, .i32⟩
  | 107 => ⟨S2048, .i32⟩
  | 108 => ⟨S2048, .i1⟩
  | 109 => ⟨S_, .i32⟩
  | 110 => ⟨S2048, .i32⟩
  | 111 => ⟨S2048, .i32⟩
  | 112 => ⟨S2048, .i32⟩
  | 113 => ⟨S2048x1, .i32⟩
  | 114 => ⟨S1, .i32⟩
  | 115 => ⟨S_, .i32⟩
  | 116 => ⟨S2048x1, .i32⟩
  | 117 => ⟨S2048x1, .i1⟩
  | 118 => ⟨S1x1, .i32⟩
  | 119 => ⟨S2048x1, .i32⟩
  | 120 => ⟨S2048x1, .i1⟩
  | 121 => ⟨S2048x1, .i1⟩
  | 122 => ⟨S_, .i1⟩
  | 123 => ⟨S2048, .i1⟩
  | 124 => ⟨S8192x2048, .f32⟩
  | 125 => ⟨S8192x2048, .i1⟩
  | 126 => ⟨S_, .f32⟩
  | 127 => ⟨S8192x2048, .f32⟩
  | _ => ⟨S8192x4096, .f32⟩

abbrev hbmTy0_3 (i : Nat) : BufTy := match i % 128 with
  | 0 => ⟨S8192x2048, .f32⟩
  | 1 => ⟨S_, .i32⟩
  | 2 => ⟨S2048, .i32⟩
  | 3 => ⟨S2048, .i1⟩
  | 4 => ⟨S_, .i32⟩
  | 5 => ⟨S2048, .i32⟩
  | 6 => ⟨S2048, .i32⟩
  | 7 => ⟨S2048, .i32⟩
  | 8 => ⟨S2048x1, .i32⟩
  | 9 => ⟨S1, .i32⟩
  | 10 => ⟨S_, .i32⟩
  | 11 => ⟨S2048x1, .i32⟩
  | 12 => ⟨S2048x1, .i1⟩
  | 13 => ⟨S1x1, .i32⟩
  | 14 => ⟨S2048x1, .i32⟩
  | 15 => ⟨S2048x1, .i1⟩
  | 16 => ⟨S2048x1, .i1⟩
  | 17 => ⟨S_, .i1⟩
  | 18 => ⟨S2048, .i1⟩
  | 19 => ⟨S8192x2048, .f32⟩
  | 20 => ⟨S8192x2048, .i1⟩
  | 21 => ⟨S_, .f32⟩
  | 22 => ⟨S8192x2048, .f32⟩
  | 23 => ⟨S8192x2048, .f32⟩
  | 24 => ⟨S8192x2048, .f32⟩
  | 25 => ⟨S8192x2048, .f32⟩
  | 26 => ⟨S8192x2048, .f32⟩
  | 27 => ⟨S8192x2048, .f32⟩
  | 28 => ⟨S8192x2048, .f32⟩
  | 29 => ⟨S8192x2048, .f32⟩
  | 30 => ⟨S8192x2048, .f32⟩
  | 31 => ⟨S8192x2048, .f32⟩
  | 32 => ⟨S8192x2048, .f32⟩
  | 33 => ⟨S8192x2048, .f32⟩
  | 34 => ⟨S8192x2048, .f32⟩
  | 35 => ⟨S_, .f32⟩
  | 36 => ⟨S8192x4096, .f32⟩
  | 37 => ⟨S_, .i32⟩
  | 38 => ⟨S2048, .i32⟩
  | 39 => ⟨S2048, .i1⟩
  | 40 => ⟨S_, .i32⟩
  | 41 => ⟨S2048, .i32⟩
  | 42 => ⟨S2048, .i32⟩
  | 43 => ⟨S2048, .i32⟩
  | 44 => ⟨S2048x1, .i32⟩
  | 45 => ⟨S8192x4096, .f32⟩
  | 46 => ⟨S_, .i32⟩
  | 47 => ⟨S2048, .i32⟩
  | 48 => ⟨S2048, .i1⟩
  | 49 => ⟨S_, .i32⟩
  | 50 => ⟨S2048, .i32⟩
  | 51 => ⟨S2048, .i32⟩
  | 52 => ⟨S2048, .i32⟩
  | 53 => ⟨S2048x1, .i32⟩
  | 54 => ⟨S8192x4096, .f32⟩
  | 55 => ⟨S1x2048, .i32⟩
  | 56 => ⟨S2048, .i32⟩
  | 57 => ⟨S1x2048, .i32⟩
  | 58 => ⟨S2048, .i32⟩
  | 59 => ⟨S1x2048, .f32⟩
  | 60 => ⟨S2048, .f32⟩
  | 61 => ⟨S2048, .f32⟩
  | 62 => ⟨S1x2048, .f32⟩
  | 63 => ⟨S2048, .f32⟩
  | 64 => ⟨S1x2048, .f32⟩
  | 65 => ⟨S_, .i32⟩
  | 66 => ⟨S2048, .i32⟩
  | 67 => ⟨S2048, .i1⟩
  | 68 => ⟨S_, .i32⟩
  | 69 => ⟨S2048, .i32⟩
  | 70 => ⟨S2048, .i32⟩
  | 71 => ⟨S2048, .i32⟩
  | 72 => ⟨S2048x1, .i32⟩
  | 73 => ⟨S1, .i32⟩
  | 74 => ⟨S_, .i32⟩
  | 75 => ⟨S2048x1, .i32⟩
  | 76 => ⟨S2048x1, .i1⟩
  | 77 => ⟨S1x1, .i32⟩
  | 78 => ⟨S2048x1, .i32⟩
  | 79 => ⟨S2048x1, .i1⟩
  | 80 => ⟨S2048x1, .i1⟩
  | 81 => ⟨S_, .i1⟩
  | 82 => ⟨S2048, .i1⟩
  | 83 => ⟨S8192x2048, .f32⟩
  | 84 => ⟨S8192x2048, .i1⟩
  | 85 => ⟨S_, .f32⟩
  | 86 => ⟨S8192x2048, .f32⟩
  | 87 => ⟨S8192x2048, .f32⟩
  | 88 => ⟨S_, .i32⟩
  | 89 => ⟨S2048, .i32⟩
  | 90 => ⟨S2048, .i1⟩
  | 91 => ⟨S_, .i32⟩
  | 92 => ⟨S2048, .i32⟩
  | 93 => ⟨S2048, .i32⟩
  | 94 => ⟨S2048, .i32⟩
  | 95 => ⟨S2048x1, .i32⟩
  | 96 => ⟨S1, .i32⟩
  | 97 => ⟨S_, .i32⟩
  | 98 => ⟨S2048x1, .i32⟩
  | 99 => ⟨S2048x1, .i1⟩
  | 100 => ⟨S1x1, .i32⟩
  | 101 => ⟨S2048x1, .i32⟩
  | 102 => ⟨S2048x1, .i1⟩
  | 103 => ⟨S2048x1, .i1⟩
  | 104 => ⟨S_, .i1⟩
  | 105 => ⟨S2048, .i1⟩
  | 106 => ⟨S8192x2048, .f32⟩
  | 107 => ⟨S8192x2048, .i1⟩
  | 108 => ⟨S_, .f32⟩
  | 109 => ⟨S8192x2048, .f32⟩
  | 110 => ⟨S8192x2048, .f32⟩
  | 111 => ⟨S8192x2048, .f32⟩
  | 112 => ⟨S8192x2048, .f32⟩
  | 113 => ⟨S8192x2048, .f32⟩
  | 114 => ⟨S8192x2048, .f32⟩
  | 115 => ⟨S8192x2048, .f32⟩
  | 116 => ⟨S8192x2048, .f32⟩
  | 117 => ⟨S8192x2048, .f32⟩
  | 118 => ⟨S8192x2048, .f32⟩
  | 119 => ⟨S8192x2048, .f32⟩
  | 120 => ⟨S8192x2048, .f32⟩
  | 121 => ⟨S8192x2048, .f32⟩
  | 122 => ⟨S_, .f32⟩
  | 123 => ⟨S8192x4096, .f32⟩
  | 124 => ⟨S_, .i32⟩
  | 125 => ⟨S2048, .i32⟩
  | 126 => ⟨S2048, .i1⟩
  | 127 => ⟨S_, .i32⟩
  | _ => ⟨S8192x4096, .f32⟩

abbrev hbmTy0_4 (i : Nat) : BufTy := match i % 128 with
  | 0 => ⟨S2048, .i32⟩
  | 1 => ⟨S2048, .i32⟩
  | 2 => ⟨S2048, .i32⟩
  | 3 => ⟨S2048x1, .i32⟩
  | 4 => ⟨S8192x4096, .f32⟩
  | 5 => ⟨S_, .i32⟩
  | 6 => ⟨S2048, .i32⟩
  | 7 => ⟨S2048, .i1⟩
  | 8 => ⟨S_, .i32⟩
  | 9 => ⟨S2048, .i32⟩
  | 10 => ⟨S2048, .i32⟩
  | 11 => ⟨S2048, .i32⟩
  | 12 => ⟨S2048x1, .i32⟩
  | 13 => ⟨S8192x4096, .f32⟩
  | 14 => ⟨S1x2048, .i32⟩
  | 15 => ⟨S2048, .i32⟩
  | 16 => ⟨S1x2048, .i32⟩
  | 17 => ⟨S2048, .i32⟩
  | 18 => ⟨S1x2048, .f32⟩
  | 19 => ⟨S2048, .f32⟩
  | 20 => ⟨S2048, .f32⟩
  | 21 => ⟨S1x2048, .f32⟩
  | 22 => ⟨S2048, .f32⟩
  | 23 => ⟨S1x2048, .f32⟩
  | 24 => ⟨S_, .i32⟩
  | 25 => ⟨S2048, .i32⟩
  | 26 => ⟨S2048, .i1⟩
  | 27 => ⟨S_, .i32⟩
  | 28 => ⟨S2048, .i32⟩
  | 29 => ⟨S2048, .i32⟩
  | 30 => ⟨S2048, .i32⟩
  | 31 => ⟨S2048x1, .i32⟩
  | 32 => ⟨S1, .i32⟩
  | 33 => ⟨S_, .i32⟩
  | 34 => ⟨S2048x1, .i32⟩
  | 35 => ⟨S2048x1, .i1⟩
  | 36 => ⟨S1x1, .i32⟩
  | 37 => ⟨S2048x1, .i32⟩
  | 38 => ⟨S2048x1, .i1⟩
  | 39 => ⟨S2048x1, .i1⟩
  | 40 => ⟨S_, .i1⟩
  | 41 => ⟨S2048, .i1⟩
  | 42 => ⟨S8192x2048, .f32⟩
  | 43 => ⟨S8192x2048, .i1⟩
  | 44 => ⟨S_, .f32⟩
  | 45 => ⟨S8192x2048, .f32⟩
  | 46 => ⟨S8192x2048, .f32⟩
  | 47 => ⟨S_, .i32⟩
  | 48 => ⟨S2048, .i32⟩
  | 49 => ⟨S2048, .i1⟩
  | 50 => ⟨S_, .i32⟩
  | 51 => ⟨S2048, .i32⟩
  | 52 => ⟨S2048, .i32⟩
  | 53 => ⟨S2048, .i32⟩
  | 54 => ⟨S2048x1, .i32⟩
  | 55 => ⟨S1, .i32⟩
  | 56 => ⟨S_, .i32⟩
  | 57 => ⟨S2048x1, .i32⟩
  | 58 => ⟨S2048x1, .i1⟩
  | 59 => ⟨S1x1, .i32⟩
  | 60 => ⟨S2048x1, .i32⟩
  | 61 => ⟨S2048x1, .i1⟩
  | 62 => ⟨S2048x1, .i1⟩
  | 63 => ⟨S_, .i1⟩
  | 64 => ⟨S2048, .i1⟩
  | 65 => ⟨S8192x2048, .f32⟩
  | 66 => ⟨S8192x2048, .i1⟩
  | 67 => ⟨S_, .f32⟩
  | 68 => ⟨S8192x2048, .f32⟩
  | 69 => ⟨S8192x2048, .f32⟩
  | 70 => ⟨S8192x2048, .f32⟩
  | 71 => ⟨S8192x2048, .f32⟩
  | 72 => ⟨S8192x2048, .f32⟩
  | 73 => ⟨S8192x2048, .f32⟩
  | 74 => ⟨S8192x2048, .f32⟩
  | 75 => ⟨S8192x2048, .f32⟩
  | 76 => ⟨S8192x2048, .f32⟩
  | 77 => ⟨S8192x2048, .f32⟩
  | 78 => ⟨S8192x2048, .f32⟩
  | 79 => ⟨S8192x2048, .f32⟩
  | 80 => ⟨S8192x2048, .f32⟩
  | 81 => ⟨S_, .f32⟩
  | 82 => ⟨S8192x4096, .f32⟩
  | 83 => ⟨S_, .i32⟩
  | 84 => ⟨S2048, .i32⟩
  | 85 => ⟨S2048, .i1⟩
  | 86 => ⟨S_, .i32⟩
  | 87 => ⟨S2048, .i32⟩
  | 88 => ⟨S2048, .i32⟩
  | 89 => ⟨S2048, .i32⟩
  | 90 => ⟨S2048x1, .i32⟩
  | 91 => ⟨S8192x4096, .f32⟩
  | 92 => ⟨S_, .i32⟩
  | 93 => ⟨S2048, .i32⟩
  | 94 => ⟨S2048, .i1⟩
  | 95 => ⟨S_, .i32⟩
  | 96 => ⟨S2048, .i32⟩
  | 97 => ⟨S2048, .i32⟩
  | 98 => ⟨S2048, .i32⟩
  | 99 => ⟨S2048x1, .i32⟩
  | 100 => ⟨S8192x4096, .f32⟩
  | 101 => ⟨S1x2048, .i32⟩
  | 102 => ⟨S2048, .i32⟩
  | 103 => ⟨S1x2048, .i32⟩
  | 104 => ⟨S2048, .i32⟩
  | 105 => ⟨S1x2048, .f32⟩
  | 106 => ⟨S2048, .f32⟩
  | 107 => ⟨S2048, .f32⟩
  | 108 => ⟨S1x2048, .f32⟩
  | 109 => ⟨S2048, .f32⟩
  | 110 => ⟨S1x2048, .f32⟩
  | 111 => ⟨S_, .i32⟩
  | 112 => ⟨S2048, .i32⟩
  | 113 => ⟨S2048, .i1⟩
  | 114 => ⟨S_, .i32⟩
  | 115 => ⟨S2048, .i32⟩
  | 116 => ⟨S2048, .i32⟩
  | 117 => ⟨S2048, .i32⟩
  | 118 => ⟨S2048x1, .i32⟩
  | 119 => ⟨S1, .i32⟩
  | 120 => ⟨S_, .i32⟩
  | 121 => ⟨S2048x1, .i32⟩
  | 122 => ⟨S2048x1, .i1⟩
  | 123 => ⟨S1x1, .i32⟩
  | 124 => ⟨S2048x1, .i32⟩
  | 125 => ⟨S2048x1, .i1⟩
  | 126 => ⟨S2048x1, .i1⟩
  | 127 => ⟨S_, .i1⟩
  | _ => ⟨S8192x4096, .f32⟩

abbrev hbmTy0_5 (i : Nat) : BufTy := match i % 128 with
  | 0 => ⟨S2048, .i1⟩
  | 1 => ⟨S8192x2048, .f32⟩
  | 2 => ⟨S8192x2048, .i1⟩
  | 3 => ⟨S_, .f32⟩
  | 4 => ⟨S8192x2048, .f32⟩
  | 5 => ⟨S8192x2048, .f32⟩
  | 6 => ⟨S_, .i32⟩
  | 7 => ⟨S2048, .i32⟩
  | 8 => ⟨S2048, .i1⟩
  | 9 => ⟨S_, .i32⟩
  | 10 => ⟨S2048, .i32⟩
  | 11 => ⟨S2048, .i32⟩
  | 12 => ⟨S2048, .i32⟩
  | 13 => ⟨S2048x1, .i32⟩
  | 14 => ⟨S1, .i32⟩
  | 15 => ⟨S_, .i32⟩
  | 16 => ⟨S2048x1, .i32⟩
  | 17 => ⟨S2048x1, .i1⟩
  | 18 => ⟨S1x1, .i32⟩
  | 19 => ⟨S2048x1, .i32⟩
  | 20 => ⟨S2048x1, .i1⟩
  | 21 => ⟨S2048x1, .i1⟩
  | 22 => ⟨S_, .i1⟩
  | 23 => ⟨S2048, .i1⟩
  | 24 => ⟨S8192x2048, .f32⟩
  | 25 => ⟨S8192x2048, .i1⟩
  | 26 => ⟨S_, .f32⟩
  | 27 => ⟨S8192x2048, .f32⟩
  | 28 => ⟨S8192x2048, .f32⟩
  | 29 => ⟨S8192x2048, .f32⟩
  | 30 => ⟨S8192x2048, .f32⟩
  | 31 => ⟨S8192x2048, .f32⟩
  | 32 => ⟨S8192x2048, .f32⟩
  | 33 => ⟨S8192x2048, .f32⟩
  | 34 => ⟨S8192x2048, .f32⟩
  | 35 => ⟨S8192x2048, .f32⟩
  | 36 => ⟨S8192x2048, .f32⟩
  | 37 => ⟨S8192x2048, .f32⟩
  | 38 => ⟨S8192x2048, .f32⟩
  | 39 => ⟨S8192x2048, .f32⟩
  | 40 => ⟨S_, .f32⟩
  | 41 => ⟨S8192x4096, .f32⟩
  | 42 => ⟨S_, .i32⟩
  | 43 => ⟨S2048, .i32⟩
  | 44 => ⟨S2048, .i1⟩
  | 45 => ⟨S_, .i32⟩
  | 46 => ⟨S2048, .i32⟩
  | 47 => ⟨S2048, .i32⟩
  | 48 => ⟨S2048, .i32⟩
  | 49 => ⟨S2048x1, .i32⟩
  | 50 => ⟨S8192x4096, .f32⟩
  | 51 => ⟨S_, .i32⟩
  | 52 => ⟨S2048, .i32⟩
  | 53 => ⟨S2048, .i1⟩
  | 54 => ⟨S_, .i32⟩
  | 55 => ⟨S2048, .i32⟩
  | 56 => ⟨S2048, .i32⟩
  | 57 => ⟨S2048, .i32⟩
  | 58 => ⟨S2048x1, .i32⟩
  | 59 => ⟨S8192x4096, .f32⟩
  | 60 => ⟨S1x2048, .i32⟩
  | 61 => ⟨S2048, .i32⟩
  | 62 => ⟨S1x2048, .i32⟩
  | 63 => ⟨S2048, .i32⟩
  | 64 => ⟨S1x2048, .f32⟩
  | 65 => ⟨S2048, .f32⟩
  | 66 => ⟨S2048, .f32⟩
  | 67 => ⟨S1x2048, .f32⟩
  | 68 => ⟨S2048, .f32⟩
  | 69 => ⟨S1x2048, .f32⟩
  | 70 => ⟨S_, .i32⟩
  | 71 => ⟨S2048, .i32⟩
  | 72 => ⟨S2048, .i1⟩
  | 73 => ⟨S_, .i32⟩
  | 74 => ⟨S2048, .i32⟩
  | 75 => ⟨S2048, .i32⟩
  | 76 => ⟨S2048, .i32⟩
  | 77 => ⟨S2048x1, .i32⟩
  | 78 => ⟨S1, .i32⟩
  | 79 => ⟨S_, .i32⟩
  | 80 => ⟨S2048x1, .i32⟩
  | 81 => ⟨S2048x1, .i1⟩
  | 82 => ⟨S1x1, .i32⟩
  | 83 => ⟨S2048x1, .i32⟩
  | 84 => ⟨S2048x1, .i1⟩
  | 85 => ⟨S2048x1, .i1⟩
  | 86 => ⟨S_, .i1⟩
  | 87 => ⟨S2048, .i1⟩
  | 88 => ⟨S8192x2048, .f32⟩
  | 89 => ⟨S8192x2048, .i1⟩
  | 90 => ⟨S_, .f32⟩
  | 91 => ⟨S8192x2048, .f32⟩
  | 92 => ⟨S8192x2048, .f32⟩
  | 93 => ⟨S_, .i32⟩
  | 94 => ⟨S2048, .i32⟩
  | 95 => ⟨S2048, .i1⟩
  | 96 => ⟨S_, .i32⟩
  | 97 => ⟨S2048, .i32⟩
  | 98 => ⟨S2048, .i32⟩
  | 99 => ⟨S2048, .i32⟩
  | 100 => ⟨S2048x1, .i32⟩
  | 101 => ⟨S1, .i32⟩
  | 102 => ⟨S_, .i32⟩
  | 103 => ⟨S2048x1, .i32⟩
  | 104 => ⟨S2048x1, .i1⟩
  | 105 => ⟨S1x1, .i32⟩
  | 106 => ⟨S2048x1, .i32⟩
  | 107 => ⟨S2048x1, .i1⟩
  | 108 => ⟨S2048x1, .i1⟩
  | 109 => ⟨S_, .i1⟩
  | 110 => ⟨S2048, .i1⟩
  | 111 => ⟨S8192x2048, .f32⟩
  | 112 => ⟨S8192x2048, .i1⟩
  | 113 => ⟨S_, .f32⟩
  | 114 => ⟨S8192x2048, .f32⟩
  | 115 => ⟨S8192x2048, .f32⟩
  | 116 => ⟨S8192x2048, .f32⟩
  | 117 => ⟨S8192x2048, .f32⟩
  | 118 => ⟨S8192x2048, .f32⟩
  | 119 => ⟨S8192x2048, .f32⟩
  | 120 => ⟨S8192x2048, .f32⟩
  | 121 => ⟨S8192x2048, .f32⟩
  | 122 => ⟨S8192x2048, .f32⟩
  | 123 => ⟨S8192x2048, .f32⟩
  | 124 => ⟨S8192x2048, .f32⟩
  | 125 => ⟨S8192x2048, .f32⟩
  | 126 => ⟨S8192x2048, .f32⟩
  | 127 => ⟨S_, .f32⟩
  | _ => ⟨S8192x4096, .f32⟩

abbrev hbmTy0_6 (i : Nat) : BufTy := match i % 128 with
  | 0 => ⟨S8192x4096, .f32⟩
  | 1 => ⟨S_, .i32⟩
  | 2 => ⟨S2048, .i32⟩
  | 3 => ⟨S2048, .i1⟩
  | 4 => ⟨S_, .i32⟩
  | 5 => ⟨S2048, .i32⟩
  | 6 => ⟨S2048, .i32⟩
  | 7 => ⟨S2048, .i32⟩
  | 8 => ⟨S2048x1, .i32⟩
  | 9 => ⟨S8192x4096, .f32⟩
  | 10 => ⟨S_, .i32⟩
  | 11 => ⟨S2048, .i32⟩
  | 12 => ⟨S2048, .i1⟩
  | 13 => ⟨S_, .i32⟩
  | 14 => ⟨S2048, .i32⟩
  | 15 => ⟨S2048, .i32⟩
  | 16 => ⟨S2048, .i32⟩
  | 17 => ⟨S2048x1, .i32⟩
  | 18 => ⟨S8192x4096, .f32⟩
  | 19 => ⟨S1x2048, .i32⟩
  | 20 => ⟨S2048, .i32⟩
  | 21 => ⟨S1x2048, .i32⟩
  | 22 => ⟨S2048, .i32⟩
  | 23 => ⟨S1x2048, .f32⟩
  | 24 => ⟨S2048, .f32⟩
  | 25 => ⟨S2048, .f32⟩
  | 26 => ⟨S1x2048, .f32⟩
  | 27 => ⟨S2048, .f32⟩
  | 28 => ⟨S1x2048, .f32⟩
  | 29 => ⟨S_, .i32⟩
  | 30 => ⟨S2048, .i32⟩
  | 31 => ⟨S2048, .i1⟩
  | 32 => ⟨S_, .i32⟩
  | 33 => ⟨S2048, .i32⟩
  | 34 => ⟨S2048, .i32⟩
  | 35 => ⟨S2048, .i32⟩
  | 36 => ⟨S2048x1, .i32⟩
  | 37 => ⟨S1, .i32⟩
  | 38 => ⟨S_, .i32⟩
  | 39 => ⟨S2048x1, .i32⟩
  | 40 => ⟨S2048x1, .i1⟩
  | 41 => ⟨S1x1, .i32⟩
  | 42 => ⟨S2048x1, .i32⟩
  | 43 => ⟨S2048x1, .i1⟩
  | 44 => ⟨S2048x1, .i1⟩
  | 45 => ⟨S_, .i1⟩
  | 46 => ⟨S2048, .i1⟩
  | 47 => ⟨S8192x2048, .f32⟩
  | 48 => ⟨S8192x2048, .i1⟩
  | 49 => ⟨S_, .f32⟩
  | 50 => ⟨S8192x2048, .f32⟩
  | 51 => ⟨S8192x2048, .f32⟩
  | 52 => ⟨S_, .i32⟩
  | 53 => ⟨S2048, .i32⟩
  | 54 => ⟨S2048, .i1⟩
  | 55 => ⟨S_, .i32⟩
  | 56 => ⟨S2048, .i32⟩
  | 57 => ⟨S2048, .i32⟩
  | 58 => ⟨S2048, .i32⟩
  | 59 => ⟨S2048x1, .i32⟩
  | 60 => ⟨S1, .i32⟩
  | 61 => ⟨S_, .i32⟩
  | 62 => ⟨S2048x1, .i32⟩
  | 63 => ⟨S2048x1, .i1⟩
  | 64 => ⟨S1x1, .i32⟩
  | 65 => ⟨S2048x1, .i32⟩
  | 66 => ⟨S2048x1, .i1⟩
  | 67 => ⟨S2048x1, .i1⟩
  | 68 => ⟨S_, .i1⟩
  | 69 => ⟨S2048, .i1⟩
  | 70 => ⟨S8192x2048, .f32⟩
  | 71 => ⟨S8192x2048, .i1⟩
  | 72 => ⟨S_, .f32⟩
  | 73 => ⟨S8192x2048, .f32⟩
  | 74 => ⟨S8192x2048, .f32⟩
  | 75 => ⟨S8192x2048, .f32⟩
  | 76 => ⟨S8192x2048, .f32⟩
  | 77 => ⟨S8192x2048, .f32⟩
  | 78 => ⟨S8192x2048, .f32⟩
  | 79 => ⟨S8192x2048, .f32⟩
  | 80 => ⟨S8192x2048, .f32⟩
  | 81 => ⟨S8192x2048, .f32⟩
  | 82 => ⟨S8192x2048, .f32⟩
  | 83 => ⟨S8192x2048, .f32⟩
  | 84 => ⟨S8192x2048, .f32⟩
  | 85 => ⟨S8192x2048, .f32⟩
  | 86 => ⟨S_, .f32⟩
  | 87 => ⟨S8192x4096, .f32⟩
  | 88 => ⟨S_, .i32⟩
  | 89 => ⟨S2048, .i32⟩
  | 90 => ⟨S2048, .i1⟩
  | 91 => ⟨S_, .i32⟩
  | 92 => ⟨S2048, .i32⟩
  | 93 => ⟨S2048, .i32⟩
  | 94 => ⟨S2048, .i32⟩
  | 95 => ⟨S2048x1, .i32⟩
  | 96 => ⟨S8192x4096, .f32⟩
  | 97 => ⟨S_, .i32⟩
  | 98 => ⟨S2048, .i32⟩
  | 99 => ⟨S2048, .i1⟩
  | 100 => ⟨S_, .i32⟩
  | 101 => ⟨S2048, .i32⟩
  | 102 => ⟨S2048, .i32⟩
  | 103 => ⟨S2048, .i32⟩
  | 104 => ⟨S2048x1, .i32⟩
  | 105 => ⟨S8192x4096, .f32⟩
  | 106 => ⟨S1x2048, .i32⟩
  | 107 => ⟨S2048, .i32⟩
  | 108 => ⟨S1x2048, .i32⟩
  | 109 => ⟨S2048, .i32⟩
  | 110 => ⟨S1x2048, .f32⟩
  | 111 => ⟨S2048, .f32⟩
  | 112 => ⟨S2048, .f32⟩
  | 113 => ⟨S1x2048, .f32⟩
  | 114 => ⟨S2048, .f32⟩
  | 115 => ⟨S1x2048, .f32⟩
  | 116 => ⟨S_, .i32⟩
  | 117 => ⟨S2048, .i32⟩
  | 118 => ⟨S2048, .i1⟩
  | 119 => ⟨S_, .i32⟩
  | 120 => ⟨S2048, .i32⟩
  | 121 => ⟨S2048, .i32⟩
  | 122 => ⟨S2048, .i32⟩
  | 123 => ⟨S2048x1, .i32⟩
  | 124 => ⟨S1, .i32⟩
  | 125 => ⟨S_, .i32⟩
  | 126 => ⟨S2048x1, .i32⟩
  | 127 => ⟨S2048x1, .i1⟩
  | _ => ⟨S8192x4096, .f32⟩

abbrev hbmTy0_7 (i : Nat) : BufTy := match i % 128 with
  | 0 => ⟨S1x1, .i32⟩
  | 1 => ⟨S2048x1, .i32⟩
  | 2 => ⟨S2048x1, .i1⟩
  | 3 => ⟨S2048x1, .i1⟩
  | 4 => ⟨S_, .i1⟩
  | 5 => ⟨S2048, .i1⟩
  | 6 => ⟨S8192x2048, .f32⟩
  | 7 => ⟨S8192x2048, .i1⟩
  | 8 => ⟨S_, .f32⟩
  | 9 => ⟨S8192x2048, .f32⟩
  | 10 => ⟨S8192x2048, .f32⟩
  | 11 => ⟨S_, .i32⟩
  | 12 => ⟨S2048, .i32⟩
  | 13 => ⟨S2048, .i1⟩
  | 14 => ⟨S_, .i32⟩
  | 15 => ⟨S2048, .i32⟩
  | 16 => ⟨S2048, .i32⟩
  | 17 => ⟨S2048, .i32⟩
  | 18 => ⟨S2048x1, .i32⟩
  | 19 => ⟨S1, .i32⟩
  | 20 => ⟨S_, .i32⟩
  | 21 => ⟨S2048x1, .i32⟩
  | 22 => ⟨S2048x1, .i1⟩
  | 23 => ⟨S1x1, .i32⟩
  | 24 => ⟨S2048x1, .i32⟩
  | 25 => ⟨S2048x1, .i1⟩
  | 26 => ⟨S2048x1, .i1⟩
  | 27 => ⟨S_, .i1⟩
  | 28 => ⟨S2048, .i1⟩
  | 29 => ⟨S8192x2048, .f32⟩
  | 30 => ⟨S8192x2048, .i1⟩
  | 31 => ⟨S_, .f32⟩
  | 32 => ⟨S8192x2048, .f32⟩
  | 33 => ⟨S8192x2048, .f32⟩
  | 34 => ⟨S8192x2048, .f32⟩
  | 35 => ⟨S8192x2048, .f32⟩
  | 36 => ⟨S8192x2048, .f32⟩
  | 37 => ⟨S8192x2048, .f32⟩
  | 38 => ⟨S8192x2048, .f32⟩
  | 39 => ⟨S8192x2048, .f32⟩
  | 40 => ⟨S8192x2048, .f32⟩
  | 41 => ⟨S8192x2048, .f32⟩
  | 42 => ⟨S8192x2048, .f32⟩
  | 43 => ⟨S8192x2048, .f32⟩
  | 44 => ⟨S8192x2048, .f32⟩
  | 45 => ⟨S_, .f32⟩
  | 46 => ⟨S8192x4096, .f32⟩
  | 47 => ⟨S_, .i32⟩
  | 48 => ⟨S2048, .i32⟩
  | 49 => ⟨S2048, .i1⟩
  | 50 => ⟨S_, .i32⟩
  | 51 => ⟨S2048, .i32⟩
  | 52 => ⟨S2048, .i32⟩
  | 53 => ⟨S2048, .i32⟩
  | 54 => ⟨S2048x1, .i32⟩
  | 55 => ⟨S8192x4096, .f32⟩
  | 56 => ⟨S_, .i32⟩
  | 57 => ⟨S2048, .i32⟩
  | 58 => ⟨S2048, .i1⟩
  | 59 => ⟨S_, .i32⟩
  | 60 => ⟨S2048, .i32⟩
  | 61 => ⟨S2048, .i32⟩
  | 62 => ⟨S2048, .i32⟩
  | 63 => ⟨S2048x1, .i32⟩
  | 64 => ⟨S8192x4096, .f32⟩
  | 65 => ⟨S1x2048, .i32⟩
  | 66 => ⟨S2048, .i32⟩
  | 67 => ⟨S1x2048, .i32⟩
  | 68 => ⟨S2048, .i32⟩
  | 69 => ⟨S1x2048, .f32⟩
  | 70 => ⟨S2048, .f32⟩
  | 71 => ⟨S2048, .f32⟩
  | 72 => ⟨S1x2048, .f32⟩
  | 73 => ⟨S2048, .f32⟩
  | 74 => ⟨S1x2048, .f32⟩
  | 75 => ⟨S_, .i32⟩
  | 76 => ⟨S2048, .i32⟩
  | 77 => ⟨S2048, .i1⟩
  | 78 => ⟨S_, .i32⟩
  | 79 => ⟨S2048, .i32⟩
  | 80 => ⟨S2048, .i32⟩
  | 81 => ⟨S2048, .i32⟩
  | 82 => ⟨S2048x1, .i32⟩
  | 83 => ⟨S1, .i32⟩
  | 84 => ⟨S_, .i32⟩
  | 85 => ⟨S2048x1, .i32⟩
  | 86 => ⟨S2048x1, .i1⟩
  | 87 => ⟨S1x1, .i32⟩
  | 88 => ⟨S2048x1, .i32⟩
  | 89 => ⟨S2048x1, .i1⟩
  | 90 => ⟨S2048x1, .i1⟩
  | 91 => ⟨S_, .i1⟩
  | 92 => ⟨S2048, .i1⟩
  | 93 => ⟨S8192x2048, .f32⟩
  | 94 => ⟨S8192x2048, .i1⟩
  | 95 => ⟨S_, .f32⟩
  | 96 => ⟨S8192x2048, .f32⟩
  | 97 => ⟨S8192x2048, .f32⟩
  | 98 => ⟨S_, .i32⟩
  | 99 => ⟨S2048, .i32⟩
  | 100 => ⟨S2048, .i1⟩
  | 101 => ⟨S_, .i32⟩
  | 102 => ⟨S2048, .i32⟩
  | 103 => ⟨S2048, .i32⟩
  | 104 => ⟨S2048, .i32⟩
  | 105 => ⟨S2048x1, .i32⟩
  | 106 => ⟨S1, .i32⟩
  | 107 => ⟨S_, .i32⟩
  | 108 => ⟨S2048x1, .i32⟩
  | 109 => ⟨S2048x1, .i1⟩
  | 110 => ⟨S1x1, .i32⟩
  | 111 => ⟨S2048x1, .i32⟩
  | 112 => ⟨S2048x1, .i1⟩
  | 113 => ⟨S2048x1, .i1⟩
  | 114 => ⟨S_, .i1⟩
  | 115 => ⟨S2048, .i1⟩
  | 116 => ⟨S8192x2048, .f32⟩
  | 117 => ⟨S8192x2048, .i1⟩
  | 118 => ⟨S_, .f32⟩
  | 119 => ⟨S8192x2048, .f32⟩
  | 120 => ⟨S8192x2048, .f32⟩
  | 121 => ⟨S8192x2048, .f32⟩
  | 122 => ⟨S8192x2048, .f32⟩
  | 123 => ⟨S8192x2048, .f32⟩
  | 124 => ⟨S8192x2048, .f32⟩
  | 125 => ⟨S8192x2048, .f32⟩
  | 126 => ⟨S8192x2048, .f32⟩
  | 127 => ⟨S8192x2048, .f32⟩
  | _ => ⟨S8192x4096, .f32⟩

abbrev hbmTy0_8 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S_, .f32⟩
  | 5 => ⟨S8192x4096, .f32⟩
  | 6 => ⟨S_, .i32⟩
  | 7 => ⟨S2048, .i32⟩
  | 8 => ⟨S2048, .i1⟩
  | 9 => ⟨S_, .i32⟩
  | 10 => ⟨S2048, .i32⟩
  | 11 => ⟨S2048, .i32⟩
  | 12 => ⟨S2048, .i32⟩
  | 13 => ⟨S2048x1, .i32⟩
  | 14 => ⟨S8192x4096, .f32⟩
  | 15 => ⟨S_, .i32⟩
  | 16 => ⟨S2048, .i32⟩
  | 17 => ⟨S2048, .i1⟩
  | 18 => ⟨S_, .i32⟩
  | 19 => ⟨S2048, .i32⟩
  | 20 => ⟨S2048, .i32⟩
  | 21 => ⟨S2048, .i32⟩
  | 22 => ⟨S2048x1, .i32⟩
  | 23 => ⟨S8192x4096, .f32⟩
  | _ => ⟨S8192x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v10 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_cst : Ref sig .tc := ⟨.hbm, 71, rfl⟩
abbrev main_v23 : Ref sig .tc := ⟨.hbm, 72, rfl⟩
abbrev main_c : Ref sig .tc := ⟨.hbm, 73, rfl⟩
abbrev main_v24 : Ref sig .tc := ⟨.hbm, 74, rfl⟩
abbrev main_v25 : Ref sig .tc := ⟨.hbm, 75, rfl⟩
abbrev main_c_0 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_c_1 : Ref sig .tc := ⟨.hbm, 82, rfl⟩
abbrev main_v31 : Ref sig .tc := ⟨.hbm, 83, rfl⟩
abbrev main_v32 : Ref sig .tc := ⟨.hbm, 84, rfl⟩
abbrev main_c_2 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_call2_c : Ref sig .tc := ⟨.hbm, 101, rfl⟩
abbrev main_call2_v0 : Ref sig .tc := ⟨.hbm, 102, rfl⟩
abbrev main_call2_v1 : Ref sig .tc := ⟨.hbm, 103, rfl⟩
abbrev main_call2_c_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_c_1 : Ref sig .tc := ⟨.hbm, 109, rfl⟩
abbrev main_call2_c_2 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_c_3 : Ref sig .tc := ⟨.hbm, 117, rfl⟩
abbrev main_call2_v12 : Ref sig .tc := ⟨.hbm, 118, rfl⟩
abbrev main_call2_v13 : Ref sig .tc := ⟨.hbm, 119, rfl⟩
abbrev main_call2_v14 : Ref sig .tc := ⟨.hbm, 120, rfl⟩
abbrev main_call2_cst : Ref sig .tc := ⟨.hbm, 121, rfl⟩
abbrev main_call2_v15 : Ref sig .tc := ⟨.hbm, 122, rfl⟩
abbrev main_v48 : Ref sig .tc := ⟨.hbm, 123, rfl⟩
abbrev main_call3_c : Ref sig .tc := ⟨.hbm, 124, rfl⟩
abbrev main_call3_v0 : Ref sig .tc := ⟨.hbm, 125, rfl⟩
abbrev main_call3_v1 : Ref sig .tc := ⟨.hbm, 126, rfl⟩
abbrev main_call3_c_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_c_1 : Ref sig .tc := ⟨.hbm, 132, rfl⟩
abbrev main_call3_c_2 : Ref sig .tc := ⟨.hbm, 133, rfl⟩
abbrev main_call3_v6 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_c_3 : Ref sig .tc := ⟨.hbm, 140, rfl⟩
abbrev main_call3_v12 : Ref sig .tc := ⟨.hbm, 141, rfl⟩
abbrev main_call3_v13 : Ref sig .tc := ⟨.hbm, 142, rfl⟩
abbrev main_call3_v14 : Ref sig .tc := ⟨.hbm, 143, rfl⟩
abbrev main_call3_cst : Ref sig .tc := ⟨.hbm, 144, rfl⟩
abbrev main_call3_v15 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_cst_3 : Ref sig .tc := ⟨.hbm, 158, rfl⟩
abbrev main_v61 : Ref sig .tc := ⟨.hbm, 159, rfl⟩
abbrev main_c_4 : Ref sig .tc := ⟨.hbm, 160, rfl⟩
abbrev main_v62 : Ref sig .tc := ⟨.hbm, 161, rfl⟩
abbrev main_v63 : Ref sig .tc := ⟨.hbm, 162, rfl⟩
abbrev main_c_5 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_c_6 : Ref sig .tc := ⟨.hbm, 169, rfl⟩
abbrev main_v69 : Ref sig .tc := ⟨.hbm, 170, rfl⟩
abbrev main_v70 : Ref sig .tc := ⟨.hbm, 171, rfl⟩
abbrev main_c_7 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_call4_c : Ref sig .tc := ⟨.hbm, 188, rfl⟩
abbrev main_call4_v0 : Ref sig .tc := ⟨.hbm, 189, rfl⟩
abbrev main_call4_v1 : Ref sig .tc := ⟨.hbm, 190, rfl⟩
abbrev main_call4_c_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_c_1 : Ref sig .tc := ⟨.hbm, 196, rfl⟩
abbrev main_call4_c_2 : Ref sig .tc := ⟨.hbm, 197, rfl⟩
abbrev main_call4_v6 : Ref sig .tc := ⟨.hbm, 198, rfl⟩
abbrev main_call4_v7 : Ref sig .tc := ⟨.hbm, 199, rfl⟩
abbrev main_call4_v8 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_c_3 : Ref sig .tc := ⟨.hbm, 204, rfl⟩
abbrev main_call4_v12 : Ref sig .tc := ⟨.hbm, 205, rfl⟩
abbrev main_call4_v13 : Ref sig .tc := ⟨.hbm, 206, rfl⟩
abbrev main_call4_v14 : Ref sig .tc := ⟨.hbm, 207, rfl⟩
abbrev main_call4_cst : Ref sig .tc := ⟨.hbm, 208, rfl⟩
abbrev main_call4_v15 : Ref sig .tc := ⟨.hbm, 209, rfl⟩
abbrev main_v86 : Ref sig .tc := ⟨.hbm, 210, rfl⟩
abbrev main_call5_c : Ref sig .tc := ⟨.hbm, 211, rfl⟩
abbrev main_call5_v0 : Ref sig .tc := ⟨.hbm, 212, rfl⟩
abbrev main_call5_v1 : Ref sig .tc := ⟨.hbm, 213, rfl⟩
abbrev main_call5_c_0 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_call5_v5 : Ref sig .tc := ⟨.hbm, 218, rfl⟩
abbrev main_call5_c_1 : Ref sig .tc := ⟨.hbm, 219, rfl⟩
abbrev main_call5_c_2 : Ref sig .tc := ⟨.hbm, 220, rfl⟩
abbrev main_call5_v6 : Ref sig .tc := ⟨.hbm, 221, rfl⟩
abbrev main_call5_v7 : Ref sig .tc := ⟨.hbm, 222, rfl⟩
abbrev main_call5_v8 : Ref sig .tc := ⟨.hbm, 223, rfl⟩
abbrev main_call5_v9 : Ref sig .tc := ⟨.hbm, 224, rfl⟩
abbrev main_call5_v10 : Ref sig .tc := ⟨.hbm, 225, rfl⟩
abbrev main_call5_v11 : Ref sig .tc := ⟨.hbm, 226, rfl⟩
abbrev main_call5_c_3 : Ref sig .tc := ⟨.hbm, 227, rfl⟩
abbrev main_call5_v12 : Ref sig .tc := ⟨.hbm, 228, rfl⟩
abbrev main_call5_v13 : Ref sig .tc := ⟨.hbm, 229, rfl⟩
abbrev main_call5_v14 : Ref sig .tc := ⟨.hbm, 230, rfl⟩
abbrev main_call5_cst : Ref sig .tc := ⟨.hbm, 231, rfl⟩
abbrev main_call5_v15 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_v91 : Ref sig .tc := ⟨.hbm, 237, rfl⟩
abbrev main_v92 : Ref sig .tc := ⟨.hbm, 238, rfl⟩
abbrev main_v93 : Ref sig .tc := ⟨.hbm, 239, rfl⟩
abbrev main_v94 : Ref sig .tc := ⟨.hbm, 240, rfl⟩
abbrev main_v95 : Ref sig .tc := ⟨.hbm, 241, rfl⟩
abbrev main_v96 : Ref sig .tc := ⟨.hbm, 242, rfl⟩
abbrev main_v97 : Ref sig .tc := ⟨.hbm, 243, rfl⟩
abbrev main_v98 : Ref sig .tc := ⟨.hbm, 244, rfl⟩
abbrev main_cst_8 : Ref sig .tc := ⟨.hbm, 245, rfl⟩
abbrev main_v99 : Ref sig .tc := ⟨.hbm, 246, rfl⟩
abbrev main_c_9 : Ref sig .tc := ⟨.hbm, 247, rfl⟩
abbrev main_v100 : Ref sig .tc := ⟨.hbm, 248, rfl⟩
abbrev main_v101 : Ref sig .tc := ⟨.hbm, 249, rfl⟩
abbrev main_c_10 : Ref sig .tc := ⟨.hbm, 250, rfl⟩
abbrev main_v102 : Ref sig .tc := ⟨.hbm, 251, rfl⟩
abbrev main_v103 : Ref sig .tc := ⟨.hbm, 252, rfl⟩
abbrev main_v104 : Ref sig .tc := ⟨.hbm, 253, rfl⟩
abbrev main_v105 : Ref sig .tc := ⟨.hbm, 254, rfl⟩
abbrev main_v106 : Ref sig .tc := ⟨.hbm, 255, rfl⟩
abbrev main_c_11 : Ref sig .tc := ⟨.hbm, 256, rfl⟩
abbrev main_v107 : Ref sig .tc := ⟨.hbm, 257, rfl⟩
abbrev main_v108 : Ref sig .tc := ⟨.hbm, 258, rfl⟩
abbrev main_c_12 : Ref sig .tc := ⟨.hbm, 259, rfl⟩
abbrev main_v109 : Ref sig .tc := ⟨.hbm, 260, rfl⟩
abbrev main_v110 : Ref sig .tc := ⟨.hbm, 261, rfl⟩
abbrev main_v111 : Ref sig .tc := ⟨.hbm, 262, rfl⟩
abbrev main_v112 : Ref sig .tc := ⟨.hbm, 263, rfl⟩
abbrev main_v113 : Ref sig .tc := ⟨.hbm, 264, rfl⟩
abbrev main_v114 : Ref sig .tc := ⟨.hbm, 265, rfl⟩
abbrev main_v115 : Ref sig .tc := ⟨.hbm, 266, rfl⟩
abbrev main_v116 : Ref sig .tc := ⟨.hbm, 267, rfl⟩
abbrev main_v117 : Ref sig .tc := ⟨.hbm, 268, rfl⟩
abbrev main_v118 : Ref sig .tc := ⟨.hbm, 269, rfl⟩
abbrev main_v119 : Ref sig .tc := ⟨.hbm, 270, rfl⟩
abbrev main_v120 : Ref sig .tc := ⟨.hbm, 271, rfl⟩
abbrev main_v121 : Ref sig .tc := ⟨.hbm, 272, rfl⟩
abbrev main_v122 : Ref sig .tc := ⟨.hbm, 273, rfl⟩
abbrev main_v123 : Ref sig .tc := ⟨.hbm, 274, rfl⟩
abbrev main_call6_c : Ref sig .tc := ⟨.hbm, 275, rfl⟩
abbrev main_call6_v0 : Ref sig .tc := ⟨.hbm, 276, rfl⟩
abbrev main_call6_v1 : Ref sig .tc := ⟨.hbm, 277, rfl⟩
abbrev main_call6_c_0 : Ref sig .tc := ⟨.hbm, 278, rfl⟩
abbrev main_call6_v2 : Ref sig .tc := ⟨.hbm, 279, rfl⟩
abbrev main_call6_v3 : Ref sig .tc := ⟨.hbm, 280, rfl⟩
abbrev main_call6_v4 : Ref sig .tc := ⟨.hbm, 281, rfl⟩
abbrev main_call6_v5 : Ref sig .tc := ⟨.hbm, 282, rfl⟩
abbrev main_call6_c_1 : Ref sig .tc := ⟨.hbm, 283, rfl⟩
abbrev main_call6_c_2 : Ref sig .tc := ⟨.hbm, 284, rfl⟩
abbrev main_call6_v6 : Ref sig .tc := ⟨.hbm, 285, rfl⟩
abbrev main_call6_v7 : Ref sig .tc := ⟨.hbm, 286, rfl⟩
abbrev main_call6_v8 : Ref sig .tc := ⟨.hbm, 287, rfl⟩
abbrev main_call6_v9 : Ref sig .tc := ⟨.hbm, 288, rfl⟩
abbrev main_call6_v10 : Ref sig .tc := ⟨.hbm, 289, rfl⟩
abbrev main_call6_v11 : Ref sig .tc := ⟨.hbm, 290, rfl⟩
abbrev main_call6_c_3 : Ref sig .tc := ⟨.hbm, 291, rfl⟩
abbrev main_call6_v12 : Ref sig .tc := ⟨.hbm, 292, rfl⟩
abbrev main_call6_v13 : Ref sig .tc := ⟨.hbm, 293, rfl⟩
abbrev main_call6_v14 : Ref sig .tc := ⟨.hbm, 294, rfl⟩
abbrev main_call6_cst : Ref sig .tc := ⟨.hbm, 295, rfl⟩
abbrev main_call6_v15 : Ref sig .tc := ⟨.hbm, 296, rfl⟩
abbrev main_v124 : Ref sig .tc := ⟨.hbm, 297, rfl⟩
abbrev main_call7_c : Ref sig .tc := ⟨.hbm, 298, rfl⟩
abbrev main_call7_v0 : Ref sig .tc := ⟨.hbm, 299, rfl⟩
abbrev main_call7_v1 : Ref sig .tc := ⟨.hbm, 300, rfl⟩
abbrev main_call7_c_0 : Ref sig .tc := ⟨.hbm, 301, rfl⟩
abbrev main_call7_v2 : Ref sig .tc := ⟨.hbm, 302, rfl⟩
abbrev main_call7_v3 : Ref sig .tc := ⟨.hbm, 303, rfl⟩
abbrev main_call7_v4 : Ref sig .tc := ⟨.hbm, 304, rfl⟩
abbrev main_call7_v5 : Ref sig .tc := ⟨.hbm, 305, rfl⟩
abbrev main_call7_c_1 : Ref sig .tc := ⟨.hbm, 306, rfl⟩
abbrev main_call7_c_2 : Ref sig .tc := ⟨.hbm, 307, rfl⟩
abbrev main_call7_v6 : Ref sig .tc := ⟨.hbm, 308, rfl⟩
abbrev main_call7_v7 : Ref sig .tc := ⟨.hbm, 309, rfl⟩
abbrev main_call7_v8 : Ref sig .tc := ⟨.hbm, 310, rfl⟩
abbrev main_call7_v9 : Ref sig .tc := ⟨.hbm, 311, rfl⟩
abbrev main_call7_v10 : Ref sig .tc := ⟨.hbm, 312, rfl⟩
abbrev main_call7_v11 : Ref sig .tc := ⟨.hbm, 313, rfl⟩
abbrev main_call7_c_3 : Ref sig .tc := ⟨.hbm, 314, rfl⟩
abbrev main_call7_v12 : Ref sig .tc := ⟨.hbm, 315, rfl⟩
abbrev main_call7_v13 : Ref sig .tc := ⟨.hbm, 316, rfl⟩
abbrev main_call7_v14 : Ref sig .tc := ⟨.hbm, 317, rfl⟩
abbrev main_call7_cst : Ref sig .tc := ⟨.hbm, 318, rfl⟩
abbrev main_call7_v15 : Ref sig .tc := ⟨.hbm, 319, rfl⟩
abbrev main_v125 : Ref sig .tc := ⟨.hbm, 320, rfl⟩
abbrev main_v126 : Ref sig .tc := ⟨.hbm, 321, rfl⟩
abbrev main_v127 : Ref sig .tc := ⟨.hbm, 322, rfl⟩
abbrev main_v128 : Ref sig .tc := ⟨.hbm, 323, rfl⟩
abbrev main_v129 : Ref sig .tc := ⟨.hbm, 324, rfl⟩
abbrev main_v130 : Ref sig .tc := ⟨.hbm, 325, rfl⟩
abbrev main_v131 : Ref sig .tc := ⟨.hbm, 326, rfl⟩
abbrev main_v132 : Ref sig .tc := ⟨.hbm, 327, rfl⟩
abbrev main_v133 : Ref sig .tc := ⟨.hbm, 328, rfl⟩
abbrev main_v134 : Ref sig .tc := ⟨.hbm, 329, rfl⟩
abbrev main_v135 : Ref sig .tc := ⟨.hbm, 330, rfl⟩
abbrev main_v136 : Ref sig .tc := ⟨.hbm, 331, rfl⟩
abbrev main_cst_13 : Ref sig .tc := ⟨.hbm, 332, rfl⟩
abbrev main_v137 : Ref sig .tc := ⟨.hbm, 333, rfl⟩
abbrev main_c_14 : Ref sig .tc := ⟨.hbm, 334, rfl⟩
abbrev main_v138 : Ref sig .tc := ⟨.hbm, 335, rfl⟩
abbrev main_v139 : Ref sig .tc := ⟨.hbm, 336, rfl⟩
abbrev main_c_15 : Ref sig .tc := ⟨.hbm, 337, rfl⟩
abbrev main_v140 : Ref sig .tc := ⟨.hbm, 338, rfl⟩
abbrev main_v141 : Ref sig .tc := ⟨.hbm, 339, rfl⟩
abbrev main_v142 : Ref sig .tc := ⟨.hbm, 340, rfl⟩
abbrev main_v143 : Ref sig .tc := ⟨.hbm, 341, rfl⟩
abbrev main_v144 : Ref sig .tc := ⟨.hbm, 342, rfl⟩
abbrev main_c_16 : Ref sig .tc := ⟨.hbm, 343, rfl⟩
abbrev main_v145 : Ref sig .tc := ⟨.hbm, 344, rfl⟩
abbrev main_v146 : Ref sig .tc := ⟨.hbm, 345, rfl⟩
abbrev main_c_17 : Ref sig .tc := ⟨.hbm, 346, rfl⟩
abbrev main_v147 : Ref sig .tc := ⟨.hbm, 347, rfl⟩
abbrev main_v148 : Ref sig .tc := ⟨.hbm, 348, rfl⟩
abbrev main_v149 : Ref sig .tc := ⟨.hbm, 349, rfl⟩
abbrev main_v150 : Ref sig .tc := ⟨.hbm, 350, rfl⟩
abbrev main_v151 : Ref sig .tc := ⟨.hbm, 351, rfl⟩
abbrev main_v152 : Ref sig .tc := ⟨.hbm, 352, rfl⟩
abbrev main_v153 : Ref sig .tc := ⟨.hbm, 353, rfl⟩
abbrev main_v154 : Ref sig .tc := ⟨.hbm, 354, rfl⟩
abbrev main_v155 : Ref sig .tc := ⟨.hbm, 355, rfl⟩
abbrev main_v156 : Ref sig .tc := ⟨.hbm, 356, rfl⟩
abbrev main_v157 : Ref sig .tc := ⟨.hbm, 357, rfl⟩
abbrev main_v158 : Ref sig .tc := ⟨.hbm, 358, rfl⟩
abbrev main_v159 : Ref sig .tc := ⟨.hbm, 359, rfl⟩
abbrev main_v160 : Ref sig .tc := ⟨.hbm, 360, rfl⟩
abbrev main_v161 : Ref sig .tc := ⟨.hbm, 361, rfl⟩
abbrev main_call8_c : Ref sig .tc := ⟨.hbm, 362, rfl⟩
abbrev main_call8_v0 : Ref sig .tc := ⟨.hbm, 363, rfl⟩
abbrev main_call8_v1 : Ref sig .tc := ⟨.hbm, 364, rfl⟩
abbrev main_call8_c_0 : Ref sig .tc := ⟨.hbm, 365, rfl⟩
abbrev main_call8_v2 : Ref sig .tc := ⟨.hbm, 366, rfl⟩
abbrev main_call8_v3 : Ref sig .tc := ⟨.hbm, 367, rfl⟩
abbrev main_call8_v4 : Ref sig .tc := ⟨.hbm, 368, rfl⟩
abbrev main_call8_v5 : Ref sig .tc := ⟨.hbm, 369, rfl⟩
abbrev main_call8_c_1 : Ref sig .tc := ⟨.hbm, 370, rfl⟩
abbrev main_call8_c_2 : Ref sig .tc := ⟨.hbm, 371, rfl⟩
abbrev main_call8_v6 : Ref sig .tc := ⟨.hbm, 372, rfl⟩
abbrev main_call8_v7 : Ref sig .tc := ⟨.hbm, 373, rfl⟩
abbrev main_call8_v8 : Ref sig .tc := ⟨.hbm, 374, rfl⟩
abbrev main_call8_v9 : Ref sig .tc := ⟨.hbm, 375, rfl⟩
abbrev main_call8_v10 : Ref sig .tc := ⟨.hbm, 376, rfl⟩
abbrev main_call8_v11 : Ref sig .tc := ⟨.hbm, 377, rfl⟩
abbrev main_call8_c_3 : Ref sig .tc := ⟨.hbm, 378, rfl⟩
abbrev main_call8_v12 : Ref sig .tc := ⟨.hbm, 379, rfl⟩
abbrev main_call8_v13 : Ref sig .tc := ⟨.hbm, 380, rfl⟩
abbrev main_call8_v14 : Ref sig .tc := ⟨.hbm, 381, rfl⟩
abbrev main_call8_cst : Ref sig .tc := ⟨.hbm, 382, rfl⟩
abbrev main_call8_v15 : Ref sig .tc := ⟨.hbm, 383, rfl⟩
abbrev main_v162 : Ref sig .tc := ⟨.hbm, 384, rfl⟩
abbrev main_call9_c : Ref sig .tc := ⟨.hbm, 385, rfl⟩
abbrev main_call9_v0 : Ref sig .tc := ⟨.hbm, 386, rfl⟩
abbrev main_call9_v1 : Ref sig .tc := ⟨.hbm, 387, rfl⟩
abbrev main_call9_c_0 : Ref sig .tc := ⟨.hbm, 388, rfl⟩
abbrev main_call9_v2 : Ref sig .tc := ⟨.hbm, 389, rfl⟩
abbrev main_call9_v3 : Ref sig .tc := ⟨.hbm, 390, rfl⟩
abbrev main_call9_v4 : Ref sig .tc := ⟨.hbm, 391, rfl⟩
abbrev main_call9_v5 : Ref sig .tc := ⟨.hbm, 392, rfl⟩
abbrev main_call9_c_1 : Ref sig .tc := ⟨.hbm, 393, rfl⟩
abbrev main_call9_c_2 : Ref sig .tc := ⟨.hbm, 394, rfl⟩
abbrev main_call9_v6 : Ref sig .tc := ⟨.hbm, 395, rfl⟩
abbrev main_call9_v7 : Ref sig .tc := ⟨.hbm, 396, rfl⟩
abbrev main_call9_v8 : Ref sig .tc := ⟨.hbm, 397, rfl⟩
abbrev main_call9_v9 : Ref sig .tc := ⟨.hbm, 398, rfl⟩
abbrev main_call9_v10 : Ref sig .tc := ⟨.hbm, 399, rfl⟩
abbrev main_call9_v11 : Ref sig .tc := ⟨.hbm, 400, rfl⟩
abbrev main_call9_c_3 : Ref sig .tc := ⟨.hbm, 401, rfl⟩
abbrev main_call9_v12 : Ref sig .tc := ⟨.hbm, 402, rfl⟩
abbrev main_call9_v13 : Ref sig .tc := ⟨.hbm, 403, rfl⟩
abbrev main_call9_v14 : Ref sig .tc := ⟨.hbm, 404, rfl⟩
abbrev main_call9_cst : Ref sig .tc := ⟨.hbm, 405, rfl⟩
abbrev main_call9_v15 : Ref sig .tc := ⟨.hbm, 406, rfl⟩
abbrev main_v163 : Ref sig .tc := ⟨.hbm, 407, rfl⟩
abbrev main_v164 : Ref sig .tc := ⟨.hbm, 408, rfl⟩
abbrev main_v165 : Ref sig .tc := ⟨.hbm, 409, rfl⟩
abbrev main_v166 : Ref sig .tc := ⟨.hbm, 410, rfl⟩
abbrev main_v167 : Ref sig .tc := ⟨.hbm, 411, rfl⟩
abbrev main_v168 : Ref sig .tc := ⟨.hbm, 412, rfl⟩
abbrev main_v169 : Ref sig .tc := ⟨.hbm, 413, rfl⟩
abbrev main_v170 : Ref sig .tc := ⟨.hbm, 414, rfl⟩
abbrev main_v171 : Ref sig .tc := ⟨.hbm, 415, rfl⟩
abbrev main_v172 : Ref sig .tc := ⟨.hbm, 416, rfl⟩
abbrev main_v173 : Ref sig .tc := ⟨.hbm, 417, rfl⟩
abbrev main_v174 : Ref sig .tc := ⟨.hbm, 418, rfl⟩
abbrev main_cst_18 : Ref sig .tc := ⟨.hbm, 419, rfl⟩
abbrev main_v175 : Ref sig .tc := ⟨.hbm, 420, rfl⟩
abbrev main_c_19 : Ref sig .tc := ⟨.hbm, 421, rfl⟩
abbrev main_v176 : Ref sig .tc := ⟨.hbm, 422, rfl⟩
abbrev main_v177 : Ref sig .tc := ⟨.hbm, 423, rfl⟩
abbrev main_c_20 : Ref sig .tc := ⟨.hbm, 424, rfl⟩
abbrev main_v178 : Ref sig .tc := ⟨.hbm, 425, rfl⟩
abbrev main_v179 : Ref sig .tc := ⟨.hbm, 426, rfl⟩
abbrev main_v180 : Ref sig .tc := ⟨.hbm, 427, rfl⟩
abbrev main_v181 : Ref sig .tc := ⟨.hbm, 428, rfl⟩
abbrev main_v182 : Ref sig .tc := ⟨.hbm, 429, rfl⟩
abbrev main_c_21 : Ref sig .tc := ⟨.hbm, 430, rfl⟩
abbrev main_v183 : Ref sig .tc := ⟨.hbm, 431, rfl⟩
abbrev main_v184 : Ref sig .tc := ⟨.hbm, 432, rfl⟩
abbrev main_c_22 : Ref sig .tc := ⟨.hbm, 433, rfl⟩
abbrev main_v185 : Ref sig .tc := ⟨.hbm, 434, rfl⟩
abbrev main_v186 : Ref sig .tc := ⟨.hbm, 435, rfl⟩
abbrev main_v187 : Ref sig .tc := ⟨.hbm, 436, rfl⟩
abbrev main_v188 : Ref sig .tc := ⟨.hbm, 437, rfl⟩
abbrev main_v189 : Ref sig .tc := ⟨.hbm, 438, rfl⟩
abbrev main_v190 : Ref sig .tc := ⟨.hbm, 439, rfl⟩
abbrev main_v191 : Ref sig .tc := ⟨.hbm, 440, rfl⟩
abbrev main_v192 : Ref sig .tc := ⟨.hbm, 441, rfl⟩
abbrev main_v193 : Ref sig .tc := ⟨.hbm, 442, rfl⟩
abbrev main_v194 : Ref sig .tc := ⟨.hbm, 443, rfl⟩
abbrev main_v195 : Ref sig .tc := ⟨.hbm, 444, rfl⟩
abbrev main_v196 : Ref sig .tc := ⟨.hbm, 445, rfl⟩
abbrev main_v197 : Ref sig .tc := ⟨.hbm, 446, rfl⟩
abbrev main_v198 : Ref sig .tc := ⟨.hbm, 447, rfl⟩
abbrev main_v199 : Ref sig .tc := ⟨.hbm, 448, rfl⟩
abbrev main_call10_c : Ref sig .tc := ⟨.hbm, 449, rfl⟩
abbrev main_call10_v0 : Ref sig .tc := ⟨.hbm, 450, rfl⟩
abbrev main_call10_v1 : Ref sig .tc := ⟨.hbm, 451, rfl⟩
abbrev main_call10_c_0 : Ref sig .tc := ⟨.hbm, 452, rfl⟩
abbrev main_call10_v2 : Ref sig .tc := ⟨.hbm, 453, rfl⟩
abbrev main_call10_v3 : Ref sig .tc := ⟨.hbm, 454, rfl⟩
abbrev main_call10_v4 : Ref sig .tc := ⟨.hbm, 455, rfl⟩
abbrev main_call10_v5 : Ref sig .tc := ⟨.hbm, 456, rfl⟩
abbrev main_call10_c_1 : Ref sig .tc := ⟨.hbm, 457, rfl⟩
abbrev main_call10_c_2 : Ref sig .tc := ⟨.hbm, 458, rfl⟩
abbrev main_call10_v6 : Ref sig .tc := ⟨.hbm, 459, rfl⟩
abbrev main_call10_v7 : Ref sig .tc := ⟨.hbm, 460, rfl⟩
abbrev main_call10_v8 : Ref sig .tc := ⟨.hbm, 461, rfl⟩
abbrev main_call10_v9 : Ref sig .tc := ⟨.hbm, 462, rfl⟩
abbrev main_call10_v10 : Ref sig .tc := ⟨.hbm, 463, rfl⟩
abbrev main_call10_v11 : Ref sig .tc := ⟨.hbm, 464, rfl⟩
abbrev main_call10_c_3 : Ref sig .tc := ⟨.hbm, 465, rfl⟩
abbrev main_call10_v12 : Ref sig .tc := ⟨.hbm, 466, rfl⟩
abbrev main_call10_v13 : Ref sig .tc := ⟨.hbm, 467, rfl⟩
abbrev main_call10_v14 : Ref sig .tc := ⟨.hbm, 468, rfl⟩
abbrev main_call10_cst : Ref sig .tc := ⟨.hbm, 469, rfl⟩
abbrev main_call10_v15 : Ref sig .tc := ⟨.hbm, 470, rfl⟩
abbrev main_v200 : Ref sig .tc := ⟨.hbm, 471, rfl⟩
abbrev main_call11_c : Ref sig .tc := ⟨.hbm, 472, rfl⟩
abbrev main_call11_v0 : Ref sig .tc := ⟨.hbm, 473, rfl⟩
abbrev main_call11_v1 : Ref sig .tc := ⟨.hbm, 474, rfl⟩
abbrev main_call11_c_0 : Ref sig .tc := ⟨.hbm, 475, rfl⟩
abbrev main_call11_v2 : Ref sig .tc := ⟨.hbm, 476, rfl⟩
abbrev main_call11_v3 : Ref sig .tc := ⟨.hbm, 477, rfl⟩
abbrev main_call11_v4 : Ref sig .tc := ⟨.hbm, 478, rfl⟩
abbrev main_call11_v5 : Ref sig .tc := ⟨.hbm, 479, rfl⟩
abbrev main_call11_c_1 : Ref sig .tc := ⟨.hbm, 480, rfl⟩
abbrev main_call11_c_2 : Ref sig .tc := ⟨.hbm, 481, rfl⟩
abbrev main_call11_v6 : Ref sig .tc := ⟨.hbm, 482, rfl⟩
abbrev main_call11_v7 : Ref sig .tc := ⟨.hbm, 483, rfl⟩
abbrev main_call11_v8 : Ref sig .tc := ⟨.hbm, 484, rfl⟩
abbrev main_call11_v9 : Ref sig .tc := ⟨.hbm, 485, rfl⟩
abbrev main_call11_v10 : Ref sig .tc := ⟨.hbm, 486, rfl⟩
abbrev main_call11_v11 : Ref sig .tc := ⟨.hbm, 487, rfl⟩
abbrev main_call11_c_3 : Ref sig .tc := ⟨.hbm, 488, rfl⟩
abbrev main_call11_v12 : Ref sig .tc := ⟨.hbm, 489, rfl⟩
abbrev main_call11_v13 : Ref sig .tc := ⟨.hbm, 490, rfl⟩
abbrev main_call11_v14 : Ref sig .tc := ⟨.hbm, 491, rfl⟩
abbrev main_call11_cst : Ref sig .tc := ⟨.hbm, 492, rfl⟩
abbrev main_call11_v15 : Ref sig .tc := ⟨.hbm, 493, rfl⟩
abbrev main_v201 : Ref sig .tc := ⟨.hbm, 494, rfl⟩
abbrev main_v202 : Ref sig .tc := ⟨.hbm, 495, rfl⟩
abbrev main_v203 : Ref sig .tc := ⟨.hbm, 496, rfl⟩
abbrev main_v204 : Ref sig .tc := ⟨.hbm, 497, rfl⟩
abbrev main_v205 : Ref sig .tc := ⟨.hbm, 498, rfl⟩
abbrev main_v206 : Ref sig .tc := ⟨.hbm, 499, rfl⟩
abbrev main_v207 : Ref sig .tc := ⟨.hbm, 500, rfl⟩
abbrev main_v208 : Ref sig .tc := ⟨.hbm, 501, rfl⟩
abbrev main_v209 : Ref sig .tc := ⟨.hbm, 502, rfl⟩
abbrev main_v210 : Ref sig .tc := ⟨.hbm, 503, rfl⟩
abbrev main_v211 : Ref sig .tc := ⟨.hbm, 504, rfl⟩
abbrev main_v212 : Ref sig .tc := ⟨.hbm, 505, rfl⟩
abbrev main_cst_23 : Ref sig .tc := ⟨.hbm, 506, rfl⟩
abbrev main_v213 : Ref sig .tc := ⟨.hbm, 507, rfl⟩
abbrev main_c_24 : Ref sig .tc := ⟨.hbm, 508, rfl⟩
abbrev main_v214 : Ref sig .tc := ⟨.hbm, 509, rfl⟩
abbrev main_v215 : Ref sig .tc := ⟨.hbm, 510, rfl⟩
abbrev main_c_25 : Ref sig .tc := ⟨.hbm, 511, rfl⟩
abbrev main_v216 : Ref sig .tc := ⟨.hbm, 512, rfl⟩
abbrev main_v217 : Ref sig .tc := ⟨.hbm, 513, rfl⟩
abbrev main_v218 : Ref sig .tc := ⟨.hbm, 514, rfl⟩
abbrev main_v219 : Ref sig .tc := ⟨.hbm, 515, rfl⟩
abbrev main_v220 : Ref sig .tc := ⟨.hbm, 516, rfl⟩
abbrev main_c_26 : Ref sig .tc := ⟨.hbm, 517, rfl⟩
abbrev main_v221 : Ref sig .tc := ⟨.hbm, 518, rfl⟩
abbrev main_v222 : Ref sig .tc := ⟨.hbm, 519, rfl⟩
abbrev main_c_27 : Ref sig .tc := ⟨.hbm, 520, rfl⟩
abbrev main_v223 : Ref sig .tc := ⟨.hbm, 521, rfl⟩
abbrev main_v224 : Ref sig .tc := ⟨.hbm, 522, rfl⟩
abbrev main_v225 : Ref sig .tc := ⟨.hbm, 523, rfl⟩
abbrev main_v226 : Ref sig .tc := ⟨.hbm, 524, rfl⟩
abbrev main_v227 : Ref sig .tc := ⟨.hbm, 525, rfl⟩
abbrev main_v228 : Ref sig .tc := ⟨.hbm, 526, rfl⟩
abbrev main_v229 : Ref sig .tc := ⟨.hbm, 527, rfl⟩
abbrev main_v230 : Ref sig .tc := ⟨.hbm, 528, rfl⟩
abbrev main_v231 : Ref sig .tc := ⟨.hbm, 529, rfl⟩
abbrev main_v232 : Ref sig .tc := ⟨.hbm, 530, rfl⟩
abbrev main_v233 : Ref sig .tc := ⟨.hbm, 531, rfl⟩
abbrev main_v234 : Ref sig .tc := ⟨.hbm, 532, rfl⟩
abbrev main_v235 : Ref sig .tc := ⟨.hbm, 533, rfl⟩
abbrev main_v236 : Ref sig .tc := ⟨.hbm, 534, rfl⟩
abbrev main_v237 : Ref sig .tc := ⟨.hbm, 535, rfl⟩
abbrev main_call12_c : Ref sig .tc := ⟨.hbm, 536, rfl⟩
abbrev main_call12_v0 : Ref sig .tc := ⟨.hbm, 537, rfl⟩
abbrev main_call12_v1 : Ref sig .tc := ⟨.hbm, 538, rfl⟩
abbrev main_call12_c_0 : Ref sig .tc := ⟨.hbm, 539, rfl⟩
abbrev main_call12_v2 : Ref sig .tc := ⟨.hbm, 540, rfl⟩
abbrev main_call12_v3 : Ref sig .tc := ⟨.hbm, 541, rfl⟩
abbrev main_call12_v4 : Ref sig .tc := ⟨.hbm, 542, rfl⟩
abbrev main_call12_v5 : Ref sig .tc := ⟨.hbm, 543, rfl⟩
abbrev main_call12_c_1 : Ref sig .tc := ⟨.hbm, 544, rfl⟩
abbrev main_call12_c_2 : Ref sig .tc := ⟨.hbm, 545, rfl⟩
abbrev main_call12_v6 : Ref sig .tc := ⟨.hbm, 546, rfl⟩
abbrev main_call12_v7 : Ref sig .tc := ⟨.hbm, 547, rfl⟩
abbrev main_call12_v8 : Ref sig .tc := ⟨.hbm, 548, rfl⟩
abbrev main_call12_v9 : Ref sig .tc := ⟨.hbm, 549, rfl⟩
abbrev main_call12_v10 : Ref sig .tc := ⟨.hbm, 550, rfl⟩
abbrev main_call12_v11 : Ref sig .tc := ⟨.hbm, 551, rfl⟩
abbrev main_call12_c_3 : Ref sig .tc := ⟨.hbm, 552, rfl⟩
abbrev main_call12_v12 : Ref sig .tc := ⟨.hbm, 553, rfl⟩
abbrev main_call12_v13 : Ref sig .tc := ⟨.hbm, 554, rfl⟩
abbrev main_call12_v14 : Ref sig .tc := ⟨.hbm, 555, rfl⟩
abbrev main_call12_cst : Ref sig .tc := ⟨.hbm, 556, rfl⟩
abbrev main_call12_v15 : Ref sig .tc := ⟨.hbm, 557, rfl⟩
abbrev main_v238 : Ref sig .tc := ⟨.hbm, 558, rfl⟩
abbrev main_call13_c : Ref sig .tc := ⟨.hbm, 559, rfl⟩
abbrev main_call13_v0 : Ref sig .tc := ⟨.hbm, 560, rfl⟩
abbrev main_call13_v1 : Ref sig .tc := ⟨.hbm, 561, rfl⟩
abbrev main_call13_c_0 : Ref sig .tc := ⟨.hbm, 562, rfl⟩
abbrev main_call13_v2 : Ref sig .tc := ⟨.hbm, 563, rfl⟩
abbrev main_call13_v3 : Ref sig .tc := ⟨.hbm, 564, rfl⟩
abbrev main_call13_v4 : Ref sig .tc := ⟨.hbm, 565, rfl⟩
abbrev main_call13_v5 : Ref sig .tc := ⟨.hbm, 566, rfl⟩
abbrev main_call13_c_1 : Ref sig .tc := ⟨.hbm, 567, rfl⟩
abbrev main_call13_c_2 : Ref sig .tc := ⟨.hbm, 568, rfl⟩
abbrev main_call13_v6 : Ref sig .tc := ⟨.hbm, 569, rfl⟩
abbrev main_call13_v7 : Ref sig .tc := ⟨.hbm, 570, rfl⟩
abbrev main_call13_v8 : Ref sig .tc := ⟨.hbm, 571, rfl⟩
abbrev main_call13_v9 : Ref sig .tc := ⟨.hbm, 572, rfl⟩
abbrev main_call13_v10 : Ref sig .tc := ⟨.hbm, 573, rfl⟩
abbrev main_call13_v11 : Ref sig .tc := ⟨.hbm, 574, rfl⟩
abbrev main_call13_c_3 : Ref sig .tc := ⟨.hbm, 575, rfl⟩
abbrev main_call13_v12 : Ref sig .tc := ⟨.hbm, 576, rfl⟩
abbrev main_call13_v13 : Ref sig .tc := ⟨.hbm, 577, rfl⟩
abbrev main_call13_v14 : Ref sig .tc := ⟨.hbm, 578, rfl⟩
abbrev main_call13_cst : Ref sig .tc := ⟨.hbm, 579, rfl⟩
abbrev main_call13_v15 : Ref sig .tc := ⟨.hbm, 580, rfl⟩
abbrev main_v239 : Ref sig .tc := ⟨.hbm, 581, rfl⟩
abbrev main_v240 : Ref sig .tc := ⟨.hbm, 582, rfl⟩
abbrev main_v241 : Ref sig .tc := ⟨.hbm, 583, rfl⟩
abbrev main_v242 : Ref sig .tc := ⟨.hbm, 584, rfl⟩
abbrev main_v243 : Ref sig .tc := ⟨.hbm, 585, rfl⟩
abbrev main_v244 : Ref sig .tc := ⟨.hbm, 586, rfl⟩
abbrev main_v245 : Ref sig .tc := ⟨.hbm, 587, rfl⟩
abbrev main_v246 : Ref sig .tc := ⟨.hbm, 588, rfl⟩
abbrev main_v247 : Ref sig .tc := ⟨.hbm, 589, rfl⟩
abbrev main_v248 : Ref sig .tc := ⟨.hbm, 590, rfl⟩
abbrev main_v249 : Ref sig .tc := ⟨.hbm, 591, rfl⟩
abbrev main_v250 : Ref sig .tc := ⟨.hbm, 592, rfl⟩
abbrev main_cst_28 : Ref sig .tc := ⟨.hbm, 593, rfl⟩
abbrev main_v251 : Ref sig .tc := ⟨.hbm, 594, rfl⟩
abbrev main_c_29 : Ref sig .tc := ⟨.hbm, 595, rfl⟩
abbrev main_v252 : Ref sig .tc := ⟨.hbm, 596, rfl⟩
abbrev main_v253 : Ref sig .tc := ⟨.hbm, 597, rfl⟩
abbrev main_c_30 : Ref sig .tc := ⟨.hbm, 598, rfl⟩
abbrev main_v254 : Ref sig .tc := ⟨.hbm, 599, rfl⟩
abbrev main_v255 : Ref sig .tc := ⟨.hbm, 600, rfl⟩
abbrev main_v256 : Ref sig .tc := ⟨.hbm, 601, rfl⟩
abbrev main_v257 : Ref sig .tc := ⟨.hbm, 602, rfl⟩
abbrev main_v258 : Ref sig .tc := ⟨.hbm, 603, rfl⟩
abbrev main_c_31 : Ref sig .tc := ⟨.hbm, 604, rfl⟩
abbrev main_v259 : Ref sig .tc := ⟨.hbm, 605, rfl⟩
abbrev main_v260 : Ref sig .tc := ⟨.hbm, 606, rfl⟩
abbrev main_c_32 : Ref sig .tc := ⟨.hbm, 607, rfl⟩
abbrev main_v261 : Ref sig .tc := ⟨.hbm, 608, rfl⟩
abbrev main_v262 : Ref sig .tc := ⟨.hbm, 609, rfl⟩
abbrev main_v263 : Ref sig .tc := ⟨.hbm, 610, rfl⟩
abbrev main_v264 : Ref sig .tc := ⟨.hbm, 611, rfl⟩
abbrev main_v265 : Ref sig .tc := ⟨.hbm, 612, rfl⟩
abbrev main_v266 : Ref sig .tc := ⟨.hbm, 613, rfl⟩
abbrev main_v267 : Ref sig .tc := ⟨.hbm, 614, rfl⟩
abbrev main_v268 : Ref sig .tc := ⟨.hbm, 615, rfl⟩
abbrev main_v269 : Ref sig .tc := ⟨.hbm, 616, rfl⟩
abbrev main_v270 : Ref sig .tc := ⟨.hbm, 617, rfl⟩
abbrev main_v271 : Ref sig .tc := ⟨.hbm, 618, rfl⟩
abbrev main_v272 : Ref sig .tc := ⟨.hbm, 619, rfl⟩
abbrev main_v273 : Ref sig .tc := ⟨.hbm, 620, rfl⟩
abbrev main_v274 : Ref sig .tc := ⟨.hbm, 621, rfl⟩
abbrev main_v275 : Ref sig .tc := ⟨.hbm, 622, rfl⟩
abbrev main_call14_c : Ref sig .tc := ⟨.hbm, 623, rfl⟩
abbrev main_call14_v0 : Ref sig .tc := ⟨.hbm, 624, rfl⟩
abbrev main_call14_v1 : Ref sig .tc := ⟨.hbm, 625, rfl⟩
abbrev main_call14_c_0 : Ref sig .tc := ⟨.hbm, 626, rfl⟩
abbrev main_call14_v2 : Ref sig .tc := ⟨.hbm, 627, rfl⟩
abbrev main_call14_v3 : Ref sig .tc := ⟨.hbm, 628, rfl⟩
abbrev main_call14_v4 : Ref sig .tc := ⟨.hbm, 629, rfl⟩
abbrev main_call14_v5 : Ref sig .tc := ⟨.hbm, 630, rfl⟩
abbrev main_call14_c_1 : Ref sig .tc := ⟨.hbm, 631, rfl⟩
abbrev main_call14_c_2 : Ref sig .tc := ⟨.hbm, 632, rfl⟩
abbrev main_call14_v6 : Ref sig .tc := ⟨.hbm, 633, rfl⟩
abbrev main_call14_v7 : Ref sig .tc := ⟨.hbm, 634, rfl⟩
abbrev main_call14_v8 : Ref sig .tc := ⟨.hbm, 635, rfl⟩
abbrev main_call14_v9 : Ref sig .tc := ⟨.hbm, 636, rfl⟩
abbrev main_call14_v10 : Ref sig .tc := ⟨.hbm, 637, rfl⟩
abbrev main_call14_v11 : Ref sig .tc := ⟨.hbm, 638, rfl⟩
abbrev main_call14_c_3 : Ref sig .tc := ⟨.hbm, 639, rfl⟩
abbrev main_call14_v12 : Ref sig .tc := ⟨.hbm, 640, rfl⟩
abbrev main_call14_v13 : Ref sig .tc := ⟨.hbm, 641, rfl⟩
abbrev main_call14_v14 : Ref sig .tc := ⟨.hbm, 642, rfl⟩
abbrev main_call14_cst : Ref sig .tc := ⟨.hbm, 643, rfl⟩
abbrev main_call14_v15 : Ref sig .tc := ⟨.hbm, 644, rfl⟩
abbrev main_v276 : Ref sig .tc := ⟨.hbm, 645, rfl⟩
abbrev main_call15_c : Ref sig .tc := ⟨.hbm, 646, rfl⟩
abbrev main_call15_v0 : Ref sig .tc := ⟨.hbm, 647, rfl⟩
abbrev main_call15_v1 : Ref sig .tc := ⟨.hbm, 648, rfl⟩
abbrev main_call15_c_0 : Ref sig .tc := ⟨.hbm, 649, rfl⟩
abbrev main_call15_v2 : Ref sig .tc := ⟨.hbm, 650, rfl⟩
abbrev main_call15_v3 : Ref sig .tc := ⟨.hbm, 651, rfl⟩
abbrev main_call15_v4 : Ref sig .tc := ⟨.hbm, 652, rfl⟩
abbrev main_call15_v5 : Ref sig .tc := ⟨.hbm, 653, rfl⟩
abbrev main_call15_c_1 : Ref sig .tc := ⟨.hbm, 654, rfl⟩
abbrev main_call15_c_2 : Ref sig .tc := ⟨.hbm, 655, rfl⟩
abbrev main_call15_v6 : Ref sig .tc := ⟨.hbm, 656, rfl⟩
abbrev main_call15_v7 : Ref sig .tc := ⟨.hbm, 657, rfl⟩
abbrev main_call15_v8 : Ref sig .tc := ⟨.hbm, 658, rfl⟩
abbrev main_call15_v9 : Ref sig .tc := ⟨.hbm, 659, rfl⟩
abbrev main_call15_v10 : Ref sig .tc := ⟨.hbm, 660, rfl⟩
abbrev main_call15_v11 : Ref sig .tc := ⟨.hbm, 661, rfl⟩
abbrev main_call15_c_3 : Ref sig .tc := ⟨.hbm, 662, rfl⟩
abbrev main_call15_v12 : Ref sig .tc := ⟨.hbm, 663, rfl⟩
abbrev main_call15_v13 : Ref sig .tc := ⟨.hbm, 664, rfl⟩
abbrev main_call15_v14 : Ref sig .tc := ⟨.hbm, 665, rfl⟩
abbrev main_call15_cst : Ref sig .tc := ⟨.hbm, 666, rfl⟩
abbrev main_call15_v15 : Ref sig .tc := ⟨.hbm, 667, rfl⟩
abbrev main_v277 : Ref sig .tc := ⟨.hbm, 668, rfl⟩
abbrev main_v278 : Ref sig .tc := ⟨.hbm, 669, rfl⟩
abbrev main_v279 : Ref sig .tc := ⟨.hbm, 670, rfl⟩
abbrev main_v280 : Ref sig .tc := ⟨.hbm, 671, rfl⟩
abbrev main_v281 : Ref sig .tc := ⟨.hbm, 672, rfl⟩
abbrev main_v282 : Ref sig .tc := ⟨.hbm, 673, rfl⟩
abbrev main_v283 : Ref sig .tc := ⟨.hbm, 674, rfl⟩
abbrev main_v284 : Ref sig .tc := ⟨.hbm, 675, rfl⟩
abbrev main_v285 : Ref sig .tc := ⟨.hbm, 676, rfl⟩
abbrev main_v286 : Ref sig .tc := ⟨.hbm, 677, rfl⟩
abbrev main_v287 : Ref sig .tc := ⟨.hbm, 678, rfl⟩
abbrev main_v288 : Ref sig .tc := ⟨.hbm, 679, rfl⟩
abbrev main_cst_33 : Ref sig .tc := ⟨.hbm, 680, rfl⟩
abbrev main_v289 : Ref sig .tc := ⟨.hbm, 681, rfl⟩
abbrev main_c_34 : Ref sig .tc := ⟨.hbm, 682, rfl⟩
abbrev main_v290 : Ref sig .tc := ⟨.hbm, 683, rfl⟩
abbrev main_v291 : Ref sig .tc := ⟨.hbm, 684, rfl⟩
abbrev main_c_35 : Ref sig .tc := ⟨.hbm, 685, rfl⟩
abbrev main_v292 : Ref sig .tc := ⟨.hbm, 686, rfl⟩
abbrev main_v293 : Ref sig .tc := ⟨.hbm, 687, rfl⟩
abbrev main_v294 : Ref sig .tc := ⟨.hbm, 688, rfl⟩
abbrev main_v295 : Ref sig .tc := ⟨.hbm, 689, rfl⟩
abbrev main_v296 : Ref sig .tc := ⟨.hbm, 690, rfl⟩
abbrev main_c_36 : Ref sig .tc := ⟨.hbm, 691, rfl⟩
abbrev main_v297 : Ref sig .tc := ⟨.hbm, 692, rfl⟩
abbrev main_v298 : Ref sig .tc := ⟨.hbm, 693, rfl⟩
abbrev main_c_37 : Ref sig .tc := ⟨.hbm, 694, rfl⟩
abbrev main_v299 : Ref sig .tc := ⟨.hbm, 695, rfl⟩
abbrev main_v300 : Ref sig .tc := ⟨.hbm, 696, rfl⟩
abbrev main_v301 : Ref sig .tc := ⟨.hbm, 697, rfl⟩
abbrev main_v302 : Ref sig .tc := ⟨.hbm, 698, rfl⟩
abbrev main_v303 : Ref sig .tc := ⟨.hbm, 699, rfl⟩
abbrev main_v304 : Ref sig .tc := ⟨.hbm, 700, rfl⟩
abbrev main_v305 : Ref sig .tc := ⟨.hbm, 701, rfl⟩
abbrev main_v306 : Ref sig .tc := ⟨.hbm, 702, rfl⟩
abbrev main_v307 : Ref sig .tc := ⟨.hbm, 703, rfl⟩
abbrev main_v308 : Ref sig .tc := ⟨.hbm, 704, rfl⟩
abbrev main_v309 : Ref sig .tc := ⟨.hbm, 705, rfl⟩
abbrev main_v310 : Ref sig .tc := ⟨.hbm, 706, rfl⟩
abbrev main_v311 : Ref sig .tc := ⟨.hbm, 707, rfl⟩
abbrev main_v312 : Ref sig .tc := ⟨.hbm, 708, rfl⟩
abbrev main_v313 : Ref sig .tc := ⟨.hbm, 709, rfl⟩
abbrev main_call16_c : Ref sig .tc := ⟨.hbm, 710, rfl⟩
abbrev main_call16_v0 : Ref sig .tc := ⟨.hbm, 711, rfl⟩
abbrev main_call16_v1 : Ref sig .tc := ⟨.hbm, 712, rfl⟩
abbrev main_call16_c_0 : Ref sig .tc := ⟨.hbm, 713, rfl⟩
abbrev main_call16_v2 : Ref sig .tc := ⟨.hbm, 714, rfl⟩
abbrev main_call16_v3 : Ref sig .tc := ⟨.hbm, 715, rfl⟩
abbrev main_call16_v4 : Ref sig .tc := ⟨.hbm, 716, rfl⟩
abbrev main_call16_v5 : Ref sig .tc := ⟨.hbm, 717, rfl⟩
abbrev main_call16_c_1 : Ref sig .tc := ⟨.hbm, 718, rfl⟩
abbrev main_call16_c_2 : Ref sig .tc := ⟨.hbm, 719, rfl⟩
abbrev main_call16_v6 : Ref sig .tc := ⟨.hbm, 720, rfl⟩
abbrev main_call16_v7 : Ref sig .tc := ⟨.hbm, 721, rfl⟩
abbrev main_call16_v8 : Ref sig .tc := ⟨.hbm, 722, rfl⟩
abbrev main_call16_v9 : Ref sig .tc := ⟨.hbm, 723, rfl⟩
abbrev main_call16_v10 : Ref sig .tc := ⟨.hbm, 724, rfl⟩
abbrev main_call16_v11 : Ref sig .tc := ⟨.hbm, 725, rfl⟩
abbrev main_call16_c_3 : Ref sig .tc := ⟨.hbm, 726, rfl⟩
abbrev main_call16_v12 : Ref sig .tc := ⟨.hbm, 727, rfl⟩
abbrev main_call16_v13 : Ref sig .tc := ⟨.hbm, 728, rfl⟩
abbrev main_call16_v14 : Ref sig .tc := ⟨.hbm, 729, rfl⟩
abbrev main_call16_cst : Ref sig .tc := ⟨.hbm, 730, rfl⟩
abbrev main_call16_v15 : Ref sig .tc := ⟨.hbm, 731, rfl⟩
abbrev main_v314 : Ref sig .tc := ⟨.hbm, 732, rfl⟩
abbrev main_call17_c : Ref sig .tc := ⟨.hbm, 733, rfl⟩
abbrev main_call17_v0 : Ref sig .tc := ⟨.hbm, 734, rfl⟩
abbrev main_call17_v1 : Ref sig .tc := ⟨.hbm, 735, rfl⟩
abbrev main_call17_c_0 : Ref sig .tc := ⟨.hbm, 736, rfl⟩
abbrev main_call17_v2 : Ref sig .tc := ⟨.hbm, 737, rfl⟩
abbrev main_call17_v3 : Ref sig .tc := ⟨.hbm, 738, rfl⟩
abbrev main_call17_v4 : Ref sig .tc := ⟨.hbm, 739, rfl⟩
abbrev main_call17_v5 : Ref sig .tc := ⟨.hbm, 740, rfl⟩
abbrev main_call17_c_1 : Ref sig .tc := ⟨.hbm, 741, rfl⟩
abbrev main_call17_c_2 : Ref sig .tc := ⟨.hbm, 742, rfl⟩
abbrev main_call17_v6 : Ref sig .tc := ⟨.hbm, 743, rfl⟩
abbrev main_call17_v7 : Ref sig .tc := ⟨.hbm, 744, rfl⟩
abbrev main_call17_v8 : Ref sig .tc := ⟨.hbm, 745, rfl⟩
abbrev main_call17_v9 : Ref sig .tc := ⟨.hbm, 746, rfl⟩
abbrev main_call17_v10 : Ref sig .tc := ⟨.hbm, 747, rfl⟩
abbrev main_call17_v11 : Ref sig .tc := ⟨.hbm, 748, rfl⟩
abbrev main_call17_c_3 : Ref sig .tc := ⟨.hbm, 749, rfl⟩
abbrev main_call17_v12 : Ref sig .tc := ⟨.hbm, 750, rfl⟩
abbrev main_call17_v13 : Ref sig .tc := ⟨.hbm, 751, rfl⟩
abbrev main_call17_v14 : Ref sig .tc := ⟨.hbm, 752, rfl⟩
abbrev main_call17_cst : Ref sig .tc := ⟨.hbm, 753, rfl⟩
abbrev main_call17_v15 : Ref sig .tc := ⟨.hbm, 754, rfl⟩
abbrev main_v315 : Ref sig .tc := ⟨.hbm, 755, rfl⟩
abbrev main_v316 : Ref sig .tc := ⟨.hbm, 756, rfl⟩
abbrev main_v317 : Ref sig .tc := ⟨.hbm, 757, rfl⟩
abbrev main_v318 : Ref sig .tc := ⟨.hbm, 758, rfl⟩
abbrev main_v319 : Ref sig .tc := ⟨.hbm, 759, rfl⟩
abbrev main_v320 : Ref sig .tc := ⟨.hbm, 760, rfl⟩
abbrev main_v321 : Ref sig .tc := ⟨.hbm, 761, rfl⟩
abbrev main_v322 : Ref sig .tc := ⟨.hbm, 762, rfl⟩
abbrev main_v323 : Ref sig .tc := ⟨.hbm, 763, rfl⟩
abbrev main_v324 : Ref sig .tc := ⟨.hbm, 764, rfl⟩
abbrev main_v325 : Ref sig .tc := ⟨.hbm, 765, rfl⟩
abbrev main_v326 : Ref sig .tc := ⟨.hbm, 766, rfl⟩
abbrev main_cst_38 : Ref sig .tc := ⟨.hbm, 767, rfl⟩
abbrev main_v327 : Ref sig .tc := ⟨.hbm, 768, rfl⟩
abbrev main_c_39 : Ref sig .tc := ⟨.hbm, 769, rfl⟩
abbrev main_v328 : Ref sig .tc := ⟨.hbm, 770, rfl⟩
abbrev main_v329 : Ref sig .tc := ⟨.hbm, 771, rfl⟩
abbrev main_c_40 : Ref sig .tc := ⟨.hbm, 772, rfl⟩
abbrev main_v330 : Ref sig .tc := ⟨.hbm, 773, rfl⟩
abbrev main_v331 : Ref sig .tc := ⟨.hbm, 774, rfl⟩
abbrev main_v332 : Ref sig .tc := ⟨.hbm, 775, rfl⟩
abbrev main_v333 : Ref sig .tc := ⟨.hbm, 776, rfl⟩
abbrev main_v334 : Ref sig .tc := ⟨.hbm, 777, rfl⟩
abbrev main_c_41 : Ref sig .tc := ⟨.hbm, 778, rfl⟩
abbrev main_v335 : Ref sig .tc := ⟨.hbm, 779, rfl⟩
abbrev main_v336 : Ref sig .tc := ⟨.hbm, 780, rfl⟩
abbrev main_c_42 : Ref sig .tc := ⟨.hbm, 781, rfl⟩
abbrev main_v337 : Ref sig .tc := ⟨.hbm, 782, rfl⟩
abbrev main_v338 : Ref sig .tc := ⟨.hbm, 783, rfl⟩
abbrev main_v339 : Ref sig .tc := ⟨.hbm, 784, rfl⟩
abbrev main_v340 : Ref sig .tc := ⟨.hbm, 785, rfl⟩
abbrev main_v341 : Ref sig .tc := ⟨.hbm, 786, rfl⟩
abbrev main_v342 : Ref sig .tc := ⟨.hbm, 787, rfl⟩
abbrev main_v343 : Ref sig .tc := ⟨.hbm, 788, rfl⟩
abbrev main_v344 : Ref sig .tc := ⟨.hbm, 789, rfl⟩
abbrev main_v345 : Ref sig .tc := ⟨.hbm, 790, rfl⟩
abbrev main_v346 : Ref sig .tc := ⟨.hbm, 791, rfl⟩
abbrev main_v347 : Ref sig .tc := ⟨.hbm, 792, rfl⟩
abbrev main_v348 : Ref sig .tc := ⟨.hbm, 793, rfl⟩
abbrev main_v349 : Ref sig .tc := ⟨.hbm, 794, rfl⟩
abbrev main_v350 : Ref sig .tc := ⟨.hbm, 795, rfl⟩
abbrev main_v351 : Ref sig .tc := ⟨.hbm, 796, rfl⟩
abbrev main_call18_c : Ref sig .tc := ⟨.hbm, 797, rfl⟩
abbrev main_call18_v0 : Ref sig .tc := ⟨.hbm, 798, rfl⟩
abbrev main_call18_v1 : Ref sig .tc := ⟨.hbm, 799, rfl⟩
abbrev main_call18_c_0 : Ref sig .tc := ⟨.hbm, 800, rfl⟩
abbrev main_call18_v2 : Ref sig .tc := ⟨.hbm, 801, rfl⟩
abbrev main_call18_v3 : Ref sig .tc := ⟨.hbm, 802, rfl⟩
abbrev main_call18_v4 : Ref sig .tc := ⟨.hbm, 803, rfl⟩
abbrev main_call18_v5 : Ref sig .tc := ⟨.hbm, 804, rfl⟩
abbrev main_call18_c_1 : Ref sig .tc := ⟨.hbm, 805, rfl⟩
abbrev main_call18_c_2 : Ref sig .tc := ⟨.hbm, 806, rfl⟩
abbrev main_call18_v6 : Ref sig .tc := ⟨.hbm, 807, rfl⟩
abbrev main_call18_v7 : Ref sig .tc := ⟨.hbm, 808, rfl⟩
abbrev main_call18_v8 : Ref sig .tc := ⟨.hbm, 809, rfl⟩
abbrev main_call18_v9 : Ref sig .tc := ⟨.hbm, 810, rfl⟩
abbrev main_call18_v10 : Ref sig .tc := ⟨.hbm, 811, rfl⟩
abbrev main_call18_v11 : Ref sig .tc := ⟨.hbm, 812, rfl⟩
abbrev main_call18_c_3 : Ref sig .tc := ⟨.hbm, 813, rfl⟩
abbrev main_call18_v12 : Ref sig .tc := ⟨.hbm, 814, rfl⟩
abbrev main_call18_v13 : Ref sig .tc := ⟨.hbm, 815, rfl⟩
abbrev main_call18_v14 : Ref sig .tc := ⟨.hbm, 816, rfl⟩
abbrev main_call18_cst : Ref sig .tc := ⟨.hbm, 817, rfl⟩
abbrev main_call18_v15 : Ref sig .tc := ⟨.hbm, 818, rfl⟩
abbrev main_v352 : Ref sig .tc := ⟨.hbm, 819, rfl⟩
abbrev main_call19_c : Ref sig .tc := ⟨.hbm, 820, rfl⟩
abbrev main_call19_v0 : Ref sig .tc := ⟨.hbm, 821, rfl⟩
abbrev main_call19_v1 : Ref sig .tc := ⟨.hbm, 822, rfl⟩
abbrev main_call19_c_0 : Ref sig .tc := ⟨.hbm, 823, rfl⟩
abbrev main_call19_v2 : Ref sig .tc := ⟨.hbm, 824, rfl⟩
abbrev main_call19_v3 : Ref sig .tc := ⟨.hbm, 825, rfl⟩
abbrev main_call19_v4 : Ref sig .tc := ⟨.hbm, 826, rfl⟩
abbrev main_call19_v5 : Ref sig .tc := ⟨.hbm, 827, rfl⟩
abbrev main_call19_c_1 : Ref sig .tc := ⟨.hbm, 828, rfl⟩
abbrev main_call19_c_2 : Ref sig .tc := ⟨.hbm, 829, rfl⟩
abbrev main_call19_v6 : Ref sig .tc := ⟨.hbm, 830, rfl⟩
abbrev main_call19_v7 : Ref sig .tc := ⟨.hbm, 831, rfl⟩
abbrev main_call19_v8 : Ref sig .tc := ⟨.hbm, 832, rfl⟩
abbrev main_call19_v9 : Ref sig .tc := ⟨.hbm, 833, rfl⟩
abbrev main_call19_v10 : Ref sig .tc := ⟨.hbm, 834, rfl⟩
abbrev main_call19_v11 : Ref sig .tc := ⟨.hbm, 835, rfl⟩
abbrev main_call19_c_3 : Ref sig .tc := ⟨.hbm, 836, rfl⟩
abbrev main_call19_v12 : Ref sig .tc := ⟨.hbm, 837, rfl⟩
abbrev main_call19_v13 : Ref sig .tc := ⟨.hbm, 838, rfl⟩
abbrev main_call19_v14 : Ref sig .tc := ⟨.hbm, 839, rfl⟩
abbrev main_call19_cst : Ref sig .tc := ⟨.hbm, 840, rfl⟩
abbrev main_call19_v15 : Ref sig .tc := ⟨.hbm, 841, rfl⟩
abbrev main_v353 : Ref sig .tc := ⟨.hbm, 842, rfl⟩
abbrev main_v354 : Ref sig .tc := ⟨.hbm, 843, rfl⟩
abbrev main_v355 : Ref sig .tc := ⟨.hbm, 844, rfl⟩
abbrev main_v356 : Ref sig .tc := ⟨.hbm, 845, rfl⟩
abbrev main_v357 : Ref sig .tc := ⟨.hbm, 846, rfl⟩
abbrev main_v358 : Ref sig .tc := ⟨.hbm, 847, rfl⟩
abbrev main_v359 : Ref sig .tc := ⟨.hbm, 848, rfl⟩
abbrev main_v360 : Ref sig .tc := ⟨.hbm, 849, rfl⟩
abbrev main_v361 : Ref sig .tc := ⟨.hbm, 850, rfl⟩
abbrev main_v362 : Ref sig .tc := ⟨.hbm, 851, rfl⟩
abbrev main_v363 : Ref sig .tc := ⟨.hbm, 852, rfl⟩
abbrev main_v364 : Ref sig .tc := ⟨.hbm, 853, rfl⟩
abbrev main_cst_43 : Ref sig .tc := ⟨.hbm, 854, rfl⟩
abbrev main_v365 : Ref sig .tc := ⟨.hbm, 855, rfl⟩
abbrev main_c_44 : Ref sig .tc := ⟨.hbm, 856, rfl⟩
abbrev main_v366 : Ref sig .tc := ⟨.hbm, 857, rfl⟩
abbrev main_v367 : Ref sig .tc := ⟨.hbm, 858, rfl⟩
abbrev main_c_45 : Ref sig .tc := ⟨.hbm, 859, rfl⟩
abbrev main_v368 : Ref sig .tc := ⟨.hbm, 860, rfl⟩
abbrev main_v369 : Ref sig .tc := ⟨.hbm, 861, rfl⟩
abbrev main_v370 : Ref sig .tc := ⟨.hbm, 862, rfl⟩
abbrev main_v371 : Ref sig .tc := ⟨.hbm, 863, rfl⟩
abbrev main_v372 : Ref sig .tc := ⟨.hbm, 864, rfl⟩
abbrev main_c_46 : Ref sig .tc := ⟨.hbm, 865, rfl⟩
abbrev main_v373 : Ref sig .tc := ⟨.hbm, 866, rfl⟩
abbrev main_v374 : Ref sig .tc := ⟨.hbm, 867, rfl⟩
abbrev main_c_47 : Ref sig .tc := ⟨.hbm, 868, rfl⟩
abbrev main_v375 : Ref sig .tc := ⟨.hbm, 869, rfl⟩
abbrev main_v376 : Ref sig .tc := ⟨.hbm, 870, rfl⟩
abbrev main_v377 : Ref sig .tc := ⟨.hbm, 871, rfl⟩
abbrev main_v378 : Ref sig .tc := ⟨.hbm, 872, rfl⟩
abbrev main_v379 : Ref sig .tc := ⟨.hbm, 873, rfl⟩
abbrev main_v380 : Ref sig .tc := ⟨.hbm, 874, rfl⟩
abbrev main_v381 : Ref sig .tc := ⟨.hbm, 875, rfl⟩
abbrev main_v382 : Ref sig .tc := ⟨.hbm, 876, rfl⟩
abbrev main_v383 : Ref sig .tc := ⟨.hbm, 877, rfl⟩
abbrev main_v384 : Ref sig .tc := ⟨.hbm, 878, rfl⟩
abbrev main_v385 : Ref sig .tc := ⟨.hbm, 879, rfl⟩
abbrev main_v386 : Ref sig .tc := ⟨.hbm, 880, rfl⟩
abbrev main_v387 : Ref sig .tc := ⟨.hbm, 881, rfl⟩
abbrev main_v388 : Ref sig .tc := ⟨.hbm, 882, rfl⟩
abbrev main_v389 : Ref sig .tc := ⟨.hbm, 883, rfl⟩
abbrev main_call20_c : Ref sig .tc := ⟨.hbm, 884, rfl⟩
abbrev main_call20_v0 : Ref sig .tc := ⟨.hbm, 885, rfl⟩
abbrev main_call20_v1 : Ref sig .tc := ⟨.hbm, 886, rfl⟩
abbrev main_call20_c_0 : Ref sig .tc := ⟨.hbm, 887, rfl⟩
abbrev main_call20_v2 : Ref sig .tc := ⟨.hbm, 888, rfl⟩
abbrev main_call20_v3 : Ref sig .tc := ⟨.hbm, 889, rfl⟩
abbrev main_call20_v4 : Ref sig .tc := ⟨.hbm, 890, rfl⟩
abbrev main_call20_v5 : Ref sig .tc := ⟨.hbm, 891, rfl⟩
abbrev main_call20_c_1 : Ref sig .tc := ⟨.hbm, 892, rfl⟩
abbrev main_call20_c_2 : Ref sig .tc := ⟨.hbm, 893, rfl⟩
abbrev main_call20_v6 : Ref sig .tc := ⟨.hbm, 894, rfl⟩
abbrev main_call20_v7 : Ref sig .tc := ⟨.hbm, 895, rfl⟩
abbrev main_call20_v8 : Ref sig .tc := ⟨.hbm, 896, rfl⟩
abbrev main_call20_v9 : Ref sig .tc := ⟨.hbm, 897, rfl⟩
abbrev main_call20_v10 : Ref sig .tc := ⟨.hbm, 898, rfl⟩
abbrev main_call20_v11 : Ref sig .tc := ⟨.hbm, 899, rfl⟩
abbrev main_call20_c_3 : Ref sig .tc := ⟨.hbm, 900, rfl⟩
abbrev main_call20_v12 : Ref sig .tc := ⟨.hbm, 901, rfl⟩
abbrev main_call20_v13 : Ref sig .tc := ⟨.hbm, 902, rfl⟩
abbrev main_call20_v14 : Ref sig .tc := ⟨.hbm, 903, rfl⟩
abbrev main_call20_cst : Ref sig .tc := ⟨.hbm, 904, rfl⟩
abbrev main_call20_v15 : Ref sig .tc := ⟨.hbm, 905, rfl⟩
abbrev main_v390 : Ref sig .tc := ⟨.hbm, 906, rfl⟩
abbrev main_call21_c : Ref sig .tc := ⟨.hbm, 907, rfl⟩
abbrev main_call21_v0 : Ref sig .tc := ⟨.hbm, 908, rfl⟩
abbrev main_call21_v1 : Ref sig .tc := ⟨.hbm, 909, rfl⟩
abbrev main_call21_c_0 : Ref sig .tc := ⟨.hbm, 910, rfl⟩
abbrev main_call21_v2 : Ref sig .tc := ⟨.hbm, 911, rfl⟩
abbrev main_call21_v3 : Ref sig .tc := ⟨.hbm, 912, rfl⟩
abbrev main_call21_v4 : Ref sig .tc := ⟨.hbm, 913, rfl⟩
abbrev main_call21_v5 : Ref sig .tc := ⟨.hbm, 914, rfl⟩
abbrev main_call21_c_1 : Ref sig .tc := ⟨.hbm, 915, rfl⟩
abbrev main_call21_c_2 : Ref sig .tc := ⟨.hbm, 916, rfl⟩
abbrev main_call21_v6 : Ref sig .tc := ⟨.hbm, 917, rfl⟩
abbrev main_call21_v7 : Ref sig .tc := ⟨.hbm, 918, rfl⟩
abbrev main_call21_v8 : Ref sig .tc := ⟨.hbm, 919, rfl⟩
abbrev main_call21_v9 : Ref sig .tc := ⟨.hbm, 920, rfl⟩
abbrev main_call21_v10 : Ref sig .tc := ⟨.hbm, 921, rfl⟩
abbrev main_call21_v11 : Ref sig .tc := ⟨.hbm, 922, rfl⟩
abbrev main_call21_c_3 : Ref sig .tc := ⟨.hbm, 923, rfl⟩
abbrev main_call21_v12 : Ref sig .tc := ⟨.hbm, 924, rfl⟩
abbrev main_call21_v13 : Ref sig .tc := ⟨.hbm, 925, rfl⟩
abbrev main_call21_v14 : Ref sig .tc := ⟨.hbm, 926, rfl⟩
abbrev main_call21_cst : Ref sig .tc := ⟨.hbm, 927, rfl⟩
abbrev main_call21_v15 : Ref sig .tc := ⟨.hbm, 928, rfl⟩
abbrev main_v391 : Ref sig .tc := ⟨.hbm, 929, rfl⟩
abbrev main_v392 : Ref sig .tc := ⟨.hbm, 930, rfl⟩
abbrev main_v393 : Ref sig .tc := ⟨.hbm, 931, rfl⟩
abbrev main_v394 : Ref sig .tc := ⟨.hbm, 932, rfl⟩
abbrev main_v395 : Ref sig .tc := ⟨.hbm, 933, rfl⟩
abbrev main_v396 : Ref sig .tc := ⟨.hbm, 934, rfl⟩
abbrev main_v397 : Ref sig .tc := ⟨.hbm, 935, rfl⟩
abbrev main_v398 : Ref sig .tc := ⟨.hbm, 936, rfl⟩
abbrev main_v399 : Ref sig .tc := ⟨.hbm, 937, rfl⟩
abbrev main_v400 : Ref sig .tc := ⟨.hbm, 938, rfl⟩
abbrev main_v401 : Ref sig .tc := ⟨.hbm, 939, rfl⟩
abbrev main_v402 : Ref sig .tc := ⟨.hbm, 940, rfl⟩
abbrev main_cst_48 : Ref sig .tc := ⟨.hbm, 941, rfl⟩
abbrev main_v403 : Ref sig .tc := ⟨.hbm, 942, rfl⟩
abbrev main_c_49 : Ref sig .tc := ⟨.hbm, 943, rfl⟩
abbrev main_v404 : Ref sig .tc := ⟨.hbm, 944, rfl⟩
abbrev main_v405 : Ref sig .tc := ⟨.hbm, 945, rfl⟩
abbrev main_c_50 : Ref sig .tc := ⟨.hbm, 946, rfl⟩
abbrev main_v406 : Ref sig .tc := ⟨.hbm, 947, rfl⟩
abbrev main_v407 : Ref sig .tc := ⟨.hbm, 948, rfl⟩
abbrev main_v408 : Ref sig .tc := ⟨.hbm, 949, rfl⟩
abbrev main_v409 : Ref sig .tc := ⟨.hbm, 950, rfl⟩
abbrev main_v410 : Ref sig .tc := ⟨.hbm, 951, rfl⟩
abbrev main_c_51 : Ref sig .tc := ⟨.hbm, 952, rfl⟩
abbrev main_v411 : Ref sig .tc := ⟨.hbm, 953, rfl⟩
abbrev main_v412 : Ref sig .tc := ⟨.hbm, 954, rfl⟩
abbrev main_c_52 : Ref sig .tc := ⟨.hbm, 955, rfl⟩
abbrev main_v413 : Ref sig .tc := ⟨.hbm, 956, rfl⟩
abbrev main_v414 : Ref sig .tc := ⟨.hbm, 957, rfl⟩
abbrev main_v415 : Ref sig .tc := ⟨.hbm, 958, rfl⟩
abbrev main_v416 : Ref sig .tc := ⟨.hbm, 959, rfl⟩
abbrev main_v417 : Ref sig .tc := ⟨.hbm, 960, rfl⟩
abbrev main_v418 : Ref sig .tc := ⟨.hbm, 961, rfl⟩
abbrev main_v419 : Ref sig .tc := ⟨.hbm, 962, rfl⟩
abbrev main_v420 : Ref sig .tc := ⟨.hbm, 963, rfl⟩
abbrev main_v421 : Ref sig .tc := ⟨.hbm, 964, rfl⟩
abbrev main_v422 : Ref sig .tc := ⟨.hbm, 965, rfl⟩
abbrev main_v423 : Ref sig .tc := ⟨.hbm, 966, rfl⟩
abbrev main_v424 : Ref sig .tc := ⟨.hbm, 967, rfl⟩
abbrev main_v425 : Ref sig .tc := ⟨.hbm, 968, rfl⟩
abbrev main_v426 : Ref sig .tc := ⟨.hbm, 969, rfl⟩
abbrev main_v427 : Ref sig .tc := ⟨.hbm, 970, rfl⟩
abbrev main_call22_c : Ref sig .tc := ⟨.hbm, 971, rfl⟩
abbrev main_call22_v0 : Ref sig .tc := ⟨.hbm, 972, rfl⟩
abbrev main_call22_v1 : Ref sig .tc := ⟨.hbm, 973, rfl⟩
abbrev main_call22_c_0 : Ref sig .tc := ⟨.hbm, 974, rfl⟩
abbrev main_call22_v2 : Ref sig .tc := ⟨.hbm, 975, rfl⟩
abbrev main_call22_v3 : Ref sig .tc := ⟨.hbm, 976, rfl⟩
abbrev main_call22_v4 : Ref sig .tc := ⟨.hbm, 977, rfl⟩
abbrev main_call22_v5 : Ref sig .tc := ⟨.hbm, 978, rfl⟩
abbrev main_call22_c_1 : Ref sig .tc := ⟨.hbm, 979, rfl⟩
abbrev main_call22_c_2 : Ref sig .tc := ⟨.hbm, 980, rfl⟩
abbrev main_call22_v6 : Ref sig .tc := ⟨.hbm, 981, rfl⟩
abbrev main_call22_v7 : Ref sig .tc := ⟨.hbm, 982, rfl⟩
abbrev main_call22_v8 : Ref sig .tc := ⟨.hbm, 983, rfl⟩
abbrev main_call22_v9 : Ref sig .tc := ⟨.hbm, 984, rfl⟩
abbrev main_call22_v10 : Ref sig .tc := ⟨.hbm, 985, rfl⟩
abbrev main_call22_v11 : Ref sig .tc := ⟨.hbm, 986, rfl⟩
abbrev main_call22_c_3 : Ref sig .tc := ⟨.hbm, 987, rfl⟩
abbrev main_call22_v12 : Ref sig .tc := ⟨.hbm, 988, rfl⟩
abbrev main_call22_v13 : Ref sig .tc := ⟨.hbm, 989, rfl⟩
abbrev main_call22_v14 : Ref sig .tc := ⟨.hbm, 990, rfl⟩
abbrev main_call22_cst : Ref sig .tc := ⟨.hbm, 991, rfl⟩
abbrev main_call22_v15 : Ref sig .tc := ⟨.hbm, 992, rfl⟩
abbrev main_v428 : Ref sig .tc := ⟨.hbm, 993, rfl⟩
abbrev main_call23_c : Ref sig .tc := ⟨.hbm, 994, rfl⟩
abbrev main_call23_v0 : Ref sig .tc := ⟨.hbm, 995, rfl⟩
abbrev main_call23_v1 : Ref sig .tc := ⟨.hbm, 996, rfl⟩
abbrev main_call23_c_0 : Ref sig .tc := ⟨.hbm, 997, rfl⟩
abbrev main_call23_v2 : Ref sig .tc := ⟨.hbm, 998, rfl⟩
abbrev main_call23_v3 : Ref sig .tc := ⟨.hbm, 999, rfl⟩
abbrev main_call23_v4 : Ref sig .tc := ⟨.hbm, 1000, rfl⟩
abbrev main_call23_v5 : Ref sig .tc := ⟨.hbm, 1001, rfl⟩
abbrev main_call23_c_1 : Ref sig .tc := ⟨.hbm, 1002, rfl⟩
abbrev main_call23_c_2 : Ref sig .tc := ⟨.hbm, 1003, rfl⟩
abbrev main_call23_v6 : Ref sig .tc := ⟨.hbm, 1004, rfl⟩
abbrev main_call23_v7 : Ref sig .tc := ⟨.hbm, 1005, rfl⟩
abbrev main_call23_v8 : Ref sig .tc := ⟨.hbm, 1006, rfl⟩
abbrev main_call23_v9 : Ref sig .tc := ⟨.hbm, 1007, rfl⟩
abbrev main_call23_v10 : Ref sig .tc := ⟨.hbm, 1008, rfl⟩
abbrev main_call23_v11 : Ref sig .tc := ⟨.hbm, 1009, rfl⟩
abbrev main_call23_c_3 : Ref sig .tc := ⟨.hbm, 1010, rfl⟩
abbrev main_call23_v12 : Ref sig .tc := ⟨.hbm, 1011, rfl⟩
abbrev main_call23_v13 : Ref sig .tc := ⟨.hbm, 1012, rfl⟩
abbrev main_call23_v14 : Ref sig .tc := ⟨.hbm, 1013, rfl⟩
abbrev main_call23_cst : Ref sig .tc := ⟨.hbm, 1014, rfl⟩
abbrev main_call23_v15 : Ref sig .tc := ⟨.hbm, 1015, rfl⟩
abbrev main_v429 : Ref sig .tc := ⟨.hbm, 1016, rfl⟩
abbrev main_v430 : Ref sig .tc := ⟨.hbm, 1017, rfl⟩
abbrev main_v431 : Ref sig .tc := ⟨.hbm, 1018, rfl⟩
abbrev main_v432 : Ref sig .tc := ⟨.hbm, 1019, rfl⟩
abbrev main_v433 : Ref sig .tc := ⟨.hbm, 1020, rfl⟩
abbrev main_v434 : Ref sig .tc := ⟨.hbm, 1021, rfl⟩
abbrev main_v435 : Ref sig .tc := ⟨.hbm, 1022, rfl⟩
abbrev main_v436 : Ref sig .tc := ⟨.hbm, 1023, rfl⟩
abbrev main_v437 : Ref sig .tc := ⟨.hbm, 1024, rfl⟩
abbrev main_v438 : Ref sig .tc := ⟨.hbm, 1025, rfl⟩
abbrev main_v439 : Ref sig .tc := ⟨.hbm, 1026, rfl⟩
abbrev main_v440 : Ref sig .tc := ⟨.hbm, 1027, rfl⟩
abbrev main_cst_53 : Ref sig .tc := ⟨.hbm, 1028, rfl⟩
abbrev main_v441 : Ref sig .tc := ⟨.hbm, 1029, rfl⟩
abbrev main_c_54 : Ref sig .tc := ⟨.hbm, 1030, rfl⟩
abbrev main_v442 : Ref sig .tc := ⟨.hbm, 1031, rfl⟩
abbrev main_v443 : Ref sig .tc := ⟨.hbm, 1032, rfl⟩
abbrev main_c_55 : Ref sig .tc := ⟨.hbm, 1033, rfl⟩
abbrev main_v444 : Ref sig .tc := ⟨.hbm, 1034, rfl⟩
abbrev main_v445 : Ref sig .tc := ⟨.hbm, 1035, rfl⟩
abbrev main_v446 : Ref sig .tc := ⟨.hbm, 1036, rfl⟩
abbrev main_v447 : Ref sig .tc := ⟨.hbm, 1037, rfl⟩
abbrev main_v448 : Ref sig .tc := ⟨.hbm, 1038, rfl⟩
abbrev main_c_56 : Ref sig .tc := ⟨.hbm, 1039, rfl⟩
abbrev main_v449 : Ref sig .tc := ⟨.hbm, 1040, rfl⟩
abbrev main_v450 : Ref sig .tc := ⟨.hbm, 1041, rfl⟩
abbrev main_c_57 : Ref sig .tc := ⟨.hbm, 1042, rfl⟩
abbrev main_v451 : Ref sig .tc := ⟨.hbm, 1043, rfl⟩
abbrev main_v452 : Ref sig .tc := ⟨.hbm, 1044, rfl⟩
abbrev main_v453 : Ref sig .tc := ⟨.hbm, 1045, rfl⟩
abbrev main_v454 : Ref sig .tc := ⟨.hbm, 1046, rfl⟩
abbrev main_v455 : Ref sig .tc := ⟨.hbm, 1047, rfl⟩

abbrev nD : Nat := 1
abbrev τ : Topo := Topo.v7x

variable {F : FTy → Type} [FloatOps F]
-- ==== Proof.RefMoves.lean ====
/- The reference's two data movements, read at one index: a gather of columns and a scatter of columns, both steered by a column of
   index words. -/
module

public import proofs.«01_k».proof.Proof.Gen.ReferenceIdeal
public import Idealize.ShloMosaic.Lib.Routing.OpsPair
public import Idealize.ShloMosaic.Lib.Routing.OpsSet
public import Idealize.ShloMosaic.Lib.Pointwise

@[expose] public section

set_option maxRecDepth 16384

noncomputable section

namespace Cert.RefValue

open Idealize.ShloMosaic Idealize.ShloMosaic.TcCoe Idealize.ShloMosaic.Routing
open Cert.ReferenceIdeal Cert.ReferenceIdeal.Gen

/-- The gather of columns: result column `p` is the column the word at `p` names. -/
abbrev gd : GatherDims S8192x4096 S2048x1 S8192x2048 := gather_S8192x4096_S2048x1_S8192x2048_0_1_n_n_1_1_81921

/-- The scatter of columns: update column `p` goes to the column the word at `p` names. -/
abbrev sd : ScatterDims S8192x4096 S2048x1 S8192x2048 := scatter_S8192x4096_S2048x1_S8192x2048_0_1_1_1

/-- A gather reads, at `(r, p)`, the operand's row `r` at the column that the word at `p` names. -/
theorem gather_column {α : Type} (x : S8192x4096.Idx → α) (I : IVec S2048x1 32) (r : Fin 8192) (p : Fin 2048) (j : Fin 4096)
    (hj : (I (ix2 p (0 : Fin 1))).toInt = (j.val : ℤ)) : Host.gather gd x I (ix2 r p) = x (ix2 r j) := by
  unfold Host.gather
  refine congrArg x (funext fun a => Fin.ext ?_)
  match a with
  | ⟨0, _⟩ =>
    show gd.start (ix2 r p) I 0 + gd.batchCoord (ix2 r p) 0 + gd.offCoord (ix2 r p) 0 = r.val
    have h1 : gd.start (ix2 r p) I 0 = 0 := rfl
    have h2 : gd.batchCoord (ix2 r p) 0 = 0 := rfl
    have h3 : gd.offCoord (ix2 r p) 0 = r.val := rfl
    omega
  | ⟨1, _⟩ =>
    show gd.start (ix2 r p) I 1 + gd.batchCoord (ix2 r p) 1 + gd.offCoord (ix2 r p) 1 = j.val
    have h1 : gd.start (ix2 r p) I 1 = min (I (ix2 p (0 : Fin 1))).toInt.toNat 4095 := by
      have : gd.siIdx (ix2 r p) ⟨0, by decide⟩ = ix2 p (0 : Fin 1) := by
        funext b
        match b with
        | ⟨0, _⟩ => rfl
        | ⟨1, _⟩ => rfl
      rw [← this]
      rfl
    have h2 : gd.batchCoord (ix2 r p) 1 = 0 := rfl
    have h3 : gd.offCoord (ix2 r p) 1 = 0 := rfl
    rw [hj] at h1
    have := j.isLt
    omega

/-- Where update element `(r', p)` lands: in its own row, in the column that the word at `p` names. -/
theorem lands (I : IVec S2048x1 32) (r r' : Fin 8192) (p : Fin 2048) (j : Fin 4096) :
    sd.resultIdx? (ix2 r' p) I = some (ix2 r j) ↔ r' = r ∧ (I (ix2 p (0 : Fin 1))).toInt = (j.val : ℤ) := by
  have h := resultIdx?_ix2 sd (ix2 r' p) I r j
  have h1 : sd.start (ix2 r' p) I 0 = 0 := rfl
  have h2 : sd.window (ix2 r' p) 0 = r'.val := rfl
  have h3 : sd.window (ix2 r' p) 1 = 0 := rfl
  have h4 : sd.start (ix2 r' p) I 1 = (I (ix2 p (0 : Fin 1))).toInt := by
    have : sd.siIdx (ix2 r' p) ⟨0, by decide⟩ = ix2 p (0 : Fin 1) := by
      funext b
      match b with
      | ⟨0, _⟩ => rfl
      | ⟨1, _⟩ => rfl
    rw [← this]
    rfl
  rw [h1, h2, h3, h4] at h
  refine Iff.trans h ⟨fun q => ⟨Fin.ext (by omega), by omega⟩, fun q => ⟨?_, by omega⟩⟩
  rw [q.1]
  omega

/-- A column that some word names, and only one, holds that word's update. -/
theorem scatter_column {α : Type} (x : S8192x4096.Idx → α) (I : IVec S2048x1 32) (u : S8192x2048.Idx → α) (r : Fin 8192) (p : Fin 2048)
    (j : Fin 4096) (hj : (I (ix2 p (0 : Fin 1))).toInt = (j.val : ℤ))
    (hu : ∀ q : Fin 2048, (I (ix2 q (0 : Fin 1))).toInt = (j.val : ℤ) → q = p) :
    Host.scatter sd (fun _ b => b) x I u (ix2 r j) = u (ix2 r p) := by
  refine scatter_set_hit sd x I u (ix2 r j) _ (fun k hk => ?_) (ix2 r p) ((lands I r r p j).2 ⟨rfl, hj⟩)
  obtain ⟨r', q, rfl⟩ : ∃ (r' : Fin 8192) (q : Fin 2048), k = ix2 r' q := ⟨k 0, k 1, (ix2_eta k).symm⟩
  obtain ⟨h1, h2⟩ := (lands I r _ _ j).1 hk
  rw [h1, hu _ h2]

/-- A column that no word names stays as it was. -/
theorem scatter_other {α : Type} (x : S8192x4096.Idx → α) (I : IVec S2048x1 32) (u : S8192x2048.Idx → α) (r : Fin 8192) (j : Fin 4096)
    (hj : ∀ q : Fin 2048, (I (ix2 q (0 : Fin 1))).toInt ≠ (j.val : ℤ)) :
    Host.scatter sd (fun _ b => b) x I u (ix2 r j) = x (ix2 r j) := by
  refine scatter_set_miss sd x I u (ix2 r j) (fun k hk => ?_)
  obtain ⟨r', q, rfl⟩ : ∃ (r' : Fin 8192) (q : Fin 2048), k = ix2 r' q := ⟨k 0, k 1, (ix2_eta k).symm⟩
  exact hj _ ((lands I r _ _ j).1 hk).2

end Cert.RefValue
-- ==== Proof.Rotation.lean ====
/- The mathematics of the problem, over the reals: one layer of rotations, the layers one after another, and why the
   two shortcuts of the kernel leave the same values. Columns are natural numbers here; a row is a function of its
   column. -/
module

public import Mathlib.Analysis.SpecialFunctions.Trigonometric.Basic
public import Mathlib.Tactic.FieldSimp
public import Mathlib.Tactic.IntervalCases
public import Mathlib.Tactic.Ring

@[expose] public section

noncomputable section

namespace Cert.Rotation

/-- The column that layer `l` pairs column `j` with: the two differ in bit `l`. -/
def part (l j : ℕ) : ℕ := if j / 2 ^ l % 2 = 0 then j + 2 ^ l else j - 2 ^ l

/-- The sign of the sine in the new value of column `j`: plus for the left member of a pair, minus for the right. -/
def sg (l j : ℕ) : ℝ := if j / 2 ^ l % 2 = 0 then 1 else -1

/-- The pair of layer `l` that column `j` belongs to. -/
def pairOf (l j : ℕ) : ℕ := j / 2 ^ (l + 1) * 2 ^ l + j % 2 ^ l

/-- One layer: every pair turned by its angle. `th j` is the angle of column `j`'s pair. -/
def layer (th : ℕ → ℝ) (l : ℕ) (y : ℕ → ℝ) (j : ℕ) : ℝ :=
  y j * Real.cos (th j) + y (part l j) * (sg l j * Real.sin (th j))

/-- The first `n` layers, layer 0 first. -/
def rot (th : ℕ → ℕ → ℝ) : ℕ → (ℕ → ℝ) → ℕ → ℝ
  | 0, y => y
  | n + 1, y => layer (th n) n (rot th n y)

/-- A power of two splits a column number below `2 * 2 ^ l * q` cleanly: its quotient's parity is its bit `l`. -/
theorem div_split (l j : ℕ) :
    j = j / 2 ^ (l + 1) * 2 ^ (l + 1) + (j / 2 ^ l % 2) * 2 ^ l + j % 2 ^ l := by
  have h1 := Nat.div_add_mod j (2 ^ l)
  have h2 := Nat.div_add_mod (j / 2 ^ l) 2
  rw [Nat.div_div_eq_div_mul, ← pow_succ] at h2
  calc j = 2 ^ l * (j / 2 ^ l) + j % 2 ^ l := h1.symm
    _ = 2 ^ l * (2 * (j / 2 ^ (l + 1)) + j / 2 ^ l % 2) + j % 2 ^ l := by rw [h2]
    _ = _ := by ring

/-- Exchanging the two pieces of `2 ^ l` columns in every pair of neighbouring pieces takes a column to its partner. -/
theorem mate_column (l j : ℕ) : (j / 2 ^ l + 1 - 2 * (j / 2 ^ l % 2)) * 2 ^ l + j % 2 ^ l = part l j := by
  have h1 := Nat.div_add_mod j (2 ^ l)
  unfold part
  generalize j / 2 ^ l = q at *
  generalize j % 2 ^ l = r at *
  split_ifs with h
  · rw [h, Nat.mul_zero, Nat.sub_zero, Nat.add_mul, Nat.one_mul, ← h1, Nat.mul_comm q]; omega
  · have hq : q % 2 = 1 := by omega
    obtain ⟨p, rfl⟩ : ∃ p, q = p + 1 := ⟨q - 1, by omega⟩
    rw [hq, show p + 1 + 1 - 2 * 1 = p by omega, ← h1, Nat.mul_add, Nat.mul_one, Nat.mul_comm p]; omega

/-! ## The first layers as one matrix per group -/

/-- Entry `(i, j)` of layer `l` within group `g` of 128 columns. -/
def entry (th : ℕ → ℕ → ℝ) (l g i j : ℕ) : ℝ :=
  (if i = j then Real.cos (th l (128 * g + j)) else 0)
    + (if i = part l j then sg l j * Real.sin (th l (128 * g + j)) else 0)

/-- The product of the matrices of layers `0 … n`, within group `g`. -/
def prod (th : ℕ → ℕ → ℝ) (g : ℕ) : ℕ → ℕ → ℕ → ℝ
  | 0, i, j => entry th 0 g i j
  | n + 1, i, j => ∑ k : Fin 128, prod th g n i k * entry th (n + 1) g k j

/-- The partner of a column stays in its group, for the layers whose stride is below 128, and is found from the
    column's place in the group. -/
theorem part_group {l : ℕ} (hl : l < 7) (g j : ℕ) : part l (128 * g + j) = 128 * g + part l j := by
  have e : (128 * g + j) / 2 ^ l % 2 = j / 2 ^ l % 2 := by
    interval_cases l <;> omega
  have hle : ¬ j / 2 ^ l % 2 = 0 → 2 ^ l ≤ j := by
    intro h; by_contra hc; rw [Nat.div_eq_of_lt (by omega)] at h; simp at h
  unfold part; rw [e]
  split_ifs with h
  · omega
  · have := hle h; omega

/-- Within a group the sign depends on the column's place in the group. -/
theorem sg_group {l : ℕ} (hl : l < 7) (g j : ℕ) : sg l (128 * g + j) = sg l j := by
  have e : (128 * g + j) / 2 ^ l % 2 = j / 2 ^ l % 2 := by
    interval_cases l <;> omega
  unfold sg; rw [e]

/-- The first seven layers' partner lies in the same group. -/
theorem part_lt {l : ℕ} (hl : l < 7) {j : ℕ} (hj : j < 128) : part l j < 128 := by
  unfold part
  interval_cases l <;> split_ifs <;> omega

/-- A column's partner is a column of the row. -/
theorem part_lt_big {l : ℕ} (hl : l < 12) {j : ℕ} (hj : j < 4096) : part l j < 4096 := by
  unfold part
  interval_cases l <;> split_ifs <;> omega

/-- A row times one layer's matrix is that layer, within the group. -/
theorem sum_entry (th : ℕ → ℕ → ℝ) {l : ℕ} (hl : l < 7) (g : ℕ) {j : ℕ} (hj : j < 128) (y : ℕ → ℝ) :
    ∑ k : Fin 128, y (128 * g + k) * entry th l g k j = layer (th l) l y (128 * g + j) := by
  have key : ∀ (p : ℕ) (hp : p < 128) (c : ℝ),
      ∑ k : Fin 128, y (128 * g + k) * (if (k : ℕ) = p then c else 0) = y (128 * g + p) * c := by
    intro p hp c
    rw [Finset.sum_eq_single (⟨p, hp⟩ : Fin 128)]
    · simp
    · intro b _ hb
      rw [if_neg (fun h => hb (Fin.ext h)), mul_zero]
    · intro h; exact absurd (Finset.mem_univ _) h
  unfold entry layer
  simp only [mul_add, Finset.sum_add_distrib]
  rw [key j hj, key _ (part_lt hl hj), part_group hl, sg_group hl]

/-- A row times the product of the matrices of layers `0 … n` is those layers one after another. -/
theorem sum_prod (th : ℕ → ℕ → ℝ) (g : ℕ) (y : ℕ → ℝ) :
    ∀ n < 7, ∀ j < 128, ∑ i : Fin 128, y (128 * g + i) * prod th g n i j = rot th (n + 1) y (128 * g + j)
  | 0, hn, j, hj => sum_entry th hn g hj y
  | n + 1, hn, j, hj => by
    have ih := sum_prod th g y n (by omega)
    simp only [prod, Finset.mul_sum]
    rw [Finset.sum_comm]
    have : ∀ k : Fin 128, ∑ i : Fin 128, y (128 * g + i) * (prod th g n i k * entry th (n + 1) g k j)
        = rot th (n + 1) y (128 * g + k) * entry th (n + 1) g k j := by
      intro k
      rw [← ih k k.2, Finset.sum_mul]
      exact Finset.sum_congr rfl fun i _ => (mul_assoc _ _ _).symm
    rw [Finset.sum_congr rfl fun k _ => this k, sum_entry th hn g hj]
    rfl

/-! ## The last layers with the cosines factored out -/

/-- The product of the cosines of layers `7 … 7 + n - 1` met by a column. -/
def den (th : ℕ → ℕ → ℝ) : ℕ → ℕ → ℝ
  | 0, _ => 1
  | n + 1, j => Real.cos (th (7 + n) j) * den th n j

/-- What multiplies the partner's value in layer `7 + n`. -/
def tab (th : ℕ → ℕ → ℝ) (n j : ℕ) : ℝ :=
  sg (7 + n) j * Real.sin (th (7 + n) j) * den th n (part (7 + n) j) / (Real.cos (th (7 + n) j) * den th n j)

/-- The layers `7 … 7 + n - 1` as the kernel runs them, without the cosines. -/
def unscaled (th : ℕ → ℕ → ℝ) (z : ℕ → ℝ) : ℕ → ℕ → ℝ
  | 0, j => z j
  | n + 1, j => unscaled th z n j + unscaled th z n (part (7 + n) j) * tab th n j

/-- The product of cosines is not zero where none of them is. -/
theorem den_ne_zero (th : ℕ → ℕ → ℝ) (n : ℕ) (hn : n ≤ 5)
    (hc : ∀ k < 5, ∀ j < 4096, Real.cos (th (7 + k) j) ≠ 0) {j : ℕ} (hj : j < 4096) : den th n j ≠ 0 := by
  induction n with
  | zero => exact one_ne_zero
  | succ n ih => exact mul_ne_zero (hc n (by omega) j hj) (ih (by omega))

/-- Putting the cosines back at the end gives the layers themselves. -/
theorem unscaled_mul_den (th : ℕ → ℕ → ℝ) (x : ℕ → ℝ)
    (hc : ∀ k < 5, ∀ j < 4096, Real.cos (th (7 + k) j) ≠ 0) :
    ∀ n ≤ 5, ∀ j < 4096, unscaled th (rot th 7 x) n j * den th n j = rot th (7 + n) x j
  | 0, _, j, _ => mul_one _
  | n + 1, hn, j, hj => by
    have hp : part (7 + n) j < 4096 := part_lt_big (by omega) hj
    have h1 := unscaled_mul_den th x hc n (by omega) j hj
    have h2 := unscaled_mul_den th x hc n (by omega) _ hp
    have hd := den_ne_zero th n (by omega) hc hj
    have hcj := hc n (by omega) j hj
    show _ = layer (th (7 + n)) (7 + n) (rot th (7 + n) x) j
    unfold layer
    rw [← h1, ← h2]
    simp only [unscaled, den, tab]
    field_simp

end Cert.Rotation

end
-- ==== Proof.RefLayer.lean ====
/- One layer of the reference: two columns of index words pick the members of every pair, the pair is turned by its angle, and the two
   results go back to the columns they came from. -/
module

public import proofs.«01_k».proof.Proof.RefMoves
public import proofs.«01_k».proof.Proof.Rotation
public import Idealize.ShloMosaic.Lib.ReduceAll
public import Idealize.ShloMosaic.Lib.WordArith

@[expose] public section

set_option maxRecDepth 16384

noncomputable section

namespace Cert.RefValue

open Idealize.ShloMosaic Idealize.ShloMosaic.TcCoe Idealize.ShloMosaic.Routing
open Cert.ReferenceIdeal Cert.ReferenceIdeal.Gen Cert.Rotation

/-! ## The layer as the program writes it -/

section
variable {F : FTy → Type} [FloatOps F]

/-- The index words as a column, a negative one counted from the end of the row. -/
def wrapped (w : IVec S2048 32) : IVec S2048x1 32 :=
  broadcastInDim S2048x1 ![0] bcast_S2048_S2048x1_0 (select (cmpi .slt w (broadcastInDim S2048 ![] bcast_S_S2048 (constantI S_ 32 0#32)))
    (addi w (broadcastInDim S2048 ![] bcast_S_S2048 (constantI S_ 32 4096#32))) w)

/-- Which index words name a column of the row. -/
def inRange (I : IVec S2048x1 32) : IVec S2048 1 :=
  Host.reduce IntOp.andi (andi (cmpi .sge I (broadcastInDim S2048x1 ![] bcast_S_S2048x1 (constantI S_ 32 0#32)))
    (cmpi .sle I (broadcastInDim S2048x1 ![0, 1] bcast_S1x1_S2048x1_0_1 (broadcastInDim S1x1 ![1] bcast_S1_S1x1_1 (constantI S1 32 4095#32)))))
    (constantI S_ 1 1#1) reducesTo_S2048x1_S2048_d1 h_S_

/-- The named columns of `y`; where a word names none, not a number. -/
def pick (y : FVec F S8192x4096 .f32) (I : IVec S2048x1 32) : FVec F S8192x2048 .f32 :=
  select (broadcastInDim S8192x2048 ![1] bcast_S2048_S8192x2048_1 (inRange I)) (Host.gather gd y I)
    (broadcastInDim S8192x2048 ![] bcast_S_S8192x2048 (constant S_ .f32 0x7FC00000#32))

/-- One number for each pair, repeated down the rows. -/
def down (c : FVec F S2048 .f32) : FVec F S8192x2048 .f32 :=
  broadcastInDim S8192x2048 ![0, 1] bcast_S1x2048_S8192x2048_0_1 (broadcastInDim S1x2048 ![1] bcast_S2048_S1x2048_1 c)

/-- One layer. -/
def stepR (y : FVec F S8192x4096 .f32) (li ri : IVec S2048 32) (t : FVec F S2048 .f32) : FVec F S8192x4096 .f32 :=
  Host.scatter sd (fun _ b => b)
    (Host.scatter sd (fun _ b => b) (broadcastInDim S8192x4096 ![] bcast_S_S8192x4096 (constant S_ .f32 0x00000000#32)) (wrapped li)
      (addf (mulf (pick y (wrapped li)) (down (Host.cos t))) (mulf (pick y (wrapped ri)) (down (Host.sin t)))))
    (wrapped ri)
    (addf (mulf (Host.negf (pick y (wrapped li))) (down (Host.sin t))) (mulf (pick y (wrapped ri)) (down (Host.cos t))))

end

/-! ## The pairs of a layer -/

/-- The left member of pair `p` of layer `l`. -/
def leftOf (l p : ℕ) : ℕ := 2 * p - p % 2 ^ l

/-- Both members of a pair are columns of the row. -/
theorem leftOf_lt {l p : ℕ} (hl : l < 12) (hp : p < 2048) : leftOf l p + 2 ^ l < 4096 := by
  unfold leftOf
  interval_cases l <;> omega

/-- Bit `l` of a left member is zero. -/
theorem leftOf_bit {l p : ℕ} (hl : l < 12) : leftOf l p / 2 ^ l % 2 = 0 := by
  unfold leftOf
  interval_cases l <;> omega

/-- Bit `l` of a right member is one. -/
theorem rightOf_bit {l p : ℕ} (hl : l < 12) : (leftOf l p + 2 ^ l) / 2 ^ l % 2 = 1 := by
  unfold leftOf
  interval_cases l <;> omega

/-- A left member belongs to its pair. -/
theorem pairOf_leftOf {l p : ℕ} (hl : l < 12) : pairOf l (leftOf l p) = p := by
  unfold leftOf pairOf
  interval_cases l <;> omega

/-- A right member belongs to its pair. -/
theorem pairOf_rightOf {l p : ℕ} (hl : l < 12) : pairOf l (leftOf l p + 2 ^ l) = p := by
  unfold leftOf pairOf
  interval_cases l <;> omega

/-- A column's pair is one of the 2048. -/
theorem pairOf_lt_half {l j : ℕ} (hl : l < 12) (hj : j < 4096) : pairOf l j < 2048 := by
  unfold pairOf
  interval_cases l <;> omega

/-- A column whose bit is zero is its pair's left member. -/
theorem leftOf_pairOf {l j : ℕ} (hl : l < 12) (h : j / 2 ^ l % 2 = 0) : leftOf l (pairOf l j) = j := by
  unfold leftOf pairOf
  interval_cases l <;> omega

/-- A column whose bit is one is its pair's right member. -/
theorem rightOf_pairOf {l j : ℕ} (hl : l < 12) (h : ¬ j / 2 ^ l % 2 = 0) : leftOf l (pairOf l j) + 2 ^ l = j := by
  unfold leftOf pairOf
  interval_cases l <;> omega

/-! ## What the parts of a layer hold -/

/-- A word that is not negative stays as it is. -/
theorem wrapped_apply (w : IVec S2048 32) (p : Fin 2048) (h : (w (ix1 p)).toNat < 2 ^ 31) :
    wrapped w (ix2 p (0 : Fin 1)) = w (ix1 p) := by
  have : wrapped w (ix2 p (0 : Fin 1)) = Scalar.select (IntOp.cmpi .slt (w (ix1 p)) 0#32) (IntOp.addi (w (ix1 p)) 4096#32) (w (ix1 p)) := by
    unfold wrapped
    pointwise
  rw [this]
  exact wrap_of_lt _ _ h

/-- A column of index words whose words are the column numbers `n p`. -/
def Names (I : IVec S2048x1 32) (n : ℕ → ℕ) : Prop := ∀ p : Fin 2048, n p < 4096 ∧ I (ix2 p (0 : Fin 1)) = BitVec.ofNat 32 (n p)

/-- Such a word, read as a signed number, is the column's number. -/
theorem Names.toInt {I : IVec S2048x1 32} {n : ℕ → ℕ} (h : Names I n) (p : Fin 2048) : (I (ix2 p (0 : Fin 1))).toInt = (n p : ℤ) := by
  rw [(h p).2]
  exact StableHlo.Predicate.toInt_ofNat_small _ (by have := (h p).1; omega)

/-- Words that are column numbers name those columns. -/
theorem names_wrapped {w : IVec S2048 32} {n : ℕ → ℕ} (hn : ∀ p < 2048, n p < 4096) (h : ∀ p : Fin 2048, w (ix1 p) = BitVec.ofNat 32 (n p)) :
    Names (wrapped w) n := fun p => by
  refine ⟨hn p p.isLt, ?_⟩
  rw [wrapped_apply w p, h p]
  rw [h p, BitVec.toNat_ofNat]
  have := hn p p.isLt
  omega

/-- Words that name columns are all in range. -/
theorem inRange_one {I : IVec S2048x1 32} {n : ℕ → ℕ} (h : Names I n) (p : S2048.Idx) : inRange I p = 1#1 := by
  refine Host.reduce_andi_one _ _ _ _ _ rfl (fun i => ?_)
  obtain ⟨q, u, rfl⟩ : ∃ (q : Fin 2048) (u : Fin 1), i = ix2 q u := ⟨i 0, i 1, (ix2_eta i).symm⟩
  obtain rfl : u = 0 := Subsingleton.elim _ _
  have e : (andi (cmpi .sge I (broadcastInDim S2048x1 ![] bcast_S_S2048x1 (constantI S_ 32 0#32)))
      (cmpi .sle I (broadcastInDim S2048x1 ![0, 1] bcast_S1x1_S2048x1_0_1 (broadcastInDim S1x1 ![1] bcast_S1_S1x1_1 (constantI S1 32 4095#32)))))
        (ix2 q (0 : Fin 1)) = IntOp.andi (IntOp.cmpi .sge (I (ix2 q (0 : Fin 1))) 0#32) (IntOp.cmpi .sle (I (ix2 q (0 : Fin 1))) 4095#32) := by
    pointwise
  rw [e]
  have hi := h.toInt q
  have hq := (h q).1
  have h1 : IntOp.cmpi .sge (I (ix2 q (0 : Fin 1))) 0#32 = 1#1 := by
    show BitVec.ofBool ((0#32).sle (I (ix2 q (0 : Fin 1)))) = 1#1
    rw [BitVec.sle_eq_decide, hi]
    simp
  have h2 : IntOp.cmpi .sle (I (ix2 q (0 : Fin 1))) 4095#32 = 1#1 := by
    show BitVec.ofBool ((I (ix2 q (0 : Fin 1))).sle 4095#32) = 1#1
    rw [BitVec.sle_eq_decide, hi]
    have : (n q : ℤ) ≤ (4095#32 : BitVec 32).toInt := by
      show (n q : ℤ) ≤ 4095
      omega
    rw [decide_eq_true this]
    rfl
  rw [h1, h2]
  rfl

/-- Picked element `(r, p)` is row `r` at the column that the word at `p` names. -/
theorem pick_apply (y : FVec Ideal S8192x4096 .f32) {I : IVec S2048x1 32} {n : ℕ → ℕ} (h : Names I n) (r : Fin 8192) (p : Fin 2048)
    (j : Fin 4096) (hj : n p = j.val) : pick y I (ix2 r p) = y (ix2 r j) := by
  have e : pick y I (ix2 r p) = Scalar.select (inRange I (ix1 p)) (Host.gather gd y I (ix2 r p)) (FloatOps.ofBits .f32 0x7FC00000#32) := by
    unfold pick
    pointwise
  rw [e, inRange_one h, gather_column y I r p j (by rw [h.toInt p, hj])]
  rfl

/-- The repeated numbers, read at an element. -/
theorem down_apply (c : FVec Ideal S2048 .f32) (r : Fin 8192) (p : Fin 2048) : down c (ix2 r p) = c (ix1 p) := by
  unfold down
  pointwise

/-! ## What a layer holds -/

/-- The first new value of a pair: left times cosine plus right times sine. -/
theorem left_value {y : FVec Ideal S8192x4096 .f32} {Il Ir : IVec S2048x1 32} {nl nr : ℕ → ℕ} (hl : Names Il nl) (hr : Names Ir nr)
    (t : FVec Ideal S2048 .f32) (r : Fin 8192) (p : Fin 2048) (j k : Fin 4096) (hj : nl p = j.val) (hk : nr p = k.val) (a b e : ℝ)
    (ha : y (ix2 r j) = (a : EReal)) (hb : y (ix2 r k) = (b : EReal)) (he : t (ix1 p) = (e : EReal)) :
    addf (mulf (pick y Il) (down (Host.cos t))) (mulf (pick y Ir) (down (Host.sin t))) (ix2 r p)
      = ((a * Real.cos e + b * Real.sin e : ℝ) : EReal) := by
  show pick y Il (ix2 r p) * down (Host.cos t) (ix2 r p) + pick y Ir (ix2 r p) * down (Host.sin t) (ix2 r p) = _
  rw [pick_apply y hl r p j hj, pick_apply y hr r p k hk, down_apply, down_apply, ha, hb]
  show (a : EReal) * Ideal.cos (t (ix1 p)) + (b : EReal) * Ideal.sin (t (ix1 p)) = _
  rw [he, Ideal.cos_coe, Ideal.sin_coe, EReal.coe_add, EReal.coe_mul, EReal.coe_mul]

/-- The second new value of a pair: minus left times sine plus right times cosine. -/
theorem right_value {y : FVec Ideal S8192x4096 .f32} {Il Ir : IVec S2048x1 32} {nl nr : ℕ → ℕ} (hl : Names Il nl) (hr : Names Ir nr)
    (t : FVec Ideal S2048 .f32) (r : Fin 8192) (p : Fin 2048) (j k : Fin 4096) (hj : nl p = j.val) (hk : nr p = k.val) (a b e : ℝ)
    (ha : y (ix2 r j) = (a : EReal)) (hb : y (ix2 r k) = (b : EReal)) (he : t (ix1 p) = (e : EReal)) :
    addf (mulf (Host.negf (pick y Il)) (down (Host.sin t))) (mulf (pick y Ir) (down (Host.cos t))) (ix2 r p)
      = ((-a * Real.sin e + b * Real.cos e : ℝ) : EReal) := by
  show -(pick y Il (ix2 r p)) * down (Host.sin t) (ix2 r p) + pick y Ir (ix2 r p) * down (Host.cos t) (ix2 r p) = _
  rw [pick_apply y hl r p j hj, pick_apply y hr r p k hk, down_apply, down_apply, ha, hb]
  show -(a : EReal) * Ideal.sin (t (ix1 p)) + (b : EReal) * Ideal.cos (t (ix1 p)) = _
  rw [he, Ideal.cos_coe, Ideal.sin_coe, EReal.coe_add, EReal.coe_mul, EReal.coe_mul, EReal.coe_neg]

/-- On the butterfly's index words and on real numbers, the program's layer is the rotation's layer. -/
theorem stepR_apply (l : ℕ) (hl : l < 12) (y : FVec Ideal S8192x4096 .f32) (li ri : IVec S2048 32) (t : FVec Ideal S2048 .f32)
    (Y : ℕ → ℕ → ℝ) (a : ℕ → ℝ)
    (hy : ∀ (r : Fin 8192) (j : Fin 4096), y (ix2 r j) = ((Y r j : ℝ) : EReal))
    (hli : ∀ p : Fin 2048, li (ix1 p) = BitVec.ofNat 32 (leftOf l p))
    (hri : ∀ p : Fin 2048, ri (ix1 p) = BitVec.ofNat 32 (leftOf l p + 2 ^ l))
    (ht : ∀ p : Fin 2048, t (ix1 p) = ((a p : ℝ) : EReal)) (r : Fin 8192) (j : Fin 4096) :
    stepR y li ri t (ix2 r j) = ((layer (fun j => a (pairOf l j)) l (Y r) j : ℝ) : EReal) := by
  have hL : Names (wrapped li) (leftOf l) := names_wrapped (fun p hp => Nat.lt_of_le_of_lt (Nat.le_add_right _ _) (leftOf_lt hl hp)) hli
  have hR : Names (wrapped ri) (fun p => leftOf l p + 2 ^ l) := names_wrapped (fun p hp => leftOf_lt hl hp) hri
  have hp : pairOf l j < 2048 := pairOf_lt_half hl j.isLt
  have hk : part l j < 4096 := part_lt_big hl j.isLt
  unfold stepR
  by_cases h : j.val / 2 ^ l % 2 = 0
  · -- a left member: no right word names it
    have e1 : leftOf l (pairOf l j) = j := leftOf_pairOf hl h
    have e2 : part l j = j.val + 2 ^ l := if_pos h
    rw [scatter_other _ _ _ r j fun q hq => by
        rw [hR.toInt q] at hq
        have hq' : leftOf l q + 2 ^ l = j.val := by exact_mod_cast hq
        have := rightOf_bit (p := q) hl
        rw [hq'] at this
        omega,
      scatter_column _ _ _ r ⟨pairOf l j, hp⟩ j (by rw [hL.toInt]; exact_mod_cast e1) fun q hq => Fin.ext (by
        rw [hL.toInt q] at hq
        have hq' : leftOf l q = j.val := by exact_mod_cast hq
        show q.val = pairOf l j
        rw [← hq', pairOf_leftOf hl]),
      left_value hL hR t r ⟨pairOf l j, hp⟩ j ⟨part l j, hk⟩ e1 (by show leftOf l (pairOf l j) + 2 ^ l = part l j; rw [e1, e2]) _ _ _
        (hy r j) (hy r _) (ht _)]
    refine congrArg _ ?_
    unfold layer sg
    rw [if_pos h, one_mul]
  · have e1 : leftOf l (pairOf l j) + 2 ^ l = j := rightOf_pairOf hl h
    have e2 : part l j = j.val - 2 ^ l := if_neg h
    rw [scatter_column _ _ _ r ⟨pairOf l j, hp⟩ j (by rw [hR.toInt]; exact_mod_cast e1) fun q hq => Fin.ext (by
        rw [hR.toInt q] at hq
        have hq' : leftOf l q + 2 ^ l = j.val := by exact_mod_cast hq
        show q.val = pairOf l j
        rw [← hq', pairOf_rightOf hl]),
      right_value hL hR t r ⟨pairOf l j, hp⟩ ⟨part l j, hk⟩ j (by show leftOf l (pairOf l j) = part l j; omega) e1 _ _ _
        (hy r _) (hy r j) (ht _)]
    refine congrArg _ ?_
    unfold layer sg
    rw [if_neg h]
    ring

end Cert.RefValue
-- ==== Proof.Inputs.lean ====
/- What the precondition says of the arguments: real numbers, angles of the last five layers with a cosine that is not zero, and the
   butterfly's tables of indices. -/
module

public import proofs.«01_k».proof.Pre_butterfly_inputs
public import proofs.«01_k».proof.Proof.RefLayer

@[expose] public section

set_option maxRecDepth 16384

noncomputable section

namespace Cert.Inputs

open Idealize.ShloMosaic Cert.Pre_butterfly_inputs Cert.RefValue

/-- The shape relations that the precondition states. -/
theorem facts : Cert.Pre_butterfly_inputs.Facts where
  bcast_S_S12x2048 := by decide
  bcast_S_S8192x4096 := by decide
  reducesTo_S8192x4096_S_d0_1 := by decide
  h_S_ := by decide
  reducesTo_S12x2048_S_d0_1 := by decide
  slices_S12x2048_S5x2048_7_0 := by decide
  bcast_S_S5x2048 := by decide
  reducesTo_S5x2048_S_d0_1 := by decide

/-- The left word of layer `l` and pair `p`, as the precondition computes it. -/
def leftWord (l p : ℕ) : BitVec 32 :=
  2#32 * BitVec.ofNat 32 p - (BitVec.ofNat 32 p &&& (1#32 <<< l - 1#32))

/-- It is the left member of the pair. -/
theorem leftWord_eq : ∀ (l : Fin 12) (p : Fin 2048), leftWord l p = BitVec.ofNat 32 (leftOf l p) := by
  decide +kernel

/-- A stride further is the right member. -/
theorem rightWord_eq : ∀ (l : Fin 12) (p : Fin 2048), leftWord l p + 1#32 <<< l.val = BitVec.ofNat 32 (leftOf l p + 2 ^ l.val) := by
  decide +kernel

/-- A number whose absolute value lies below infinity is real. -/
theorem real_of_abs (x : Ideal .f32) (h : FloatOps.cmpf .olt (FloatOps.hostAbsf x) (FloatOps.ofBits (F := Ideal) .f32 0x7F800000#32) = 1#1) :
    x = (((x : EReal).toReal : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-x) < ⊤ := by
    by_contra hn
    simp [hn] at h'
  rw [max_lt_iff] at hlt
  refine (EReal.coe_toReal (ne_of_lt hlt.1) fun hb => ?_).symm
  rw [hb] at hlt
  exact absurd hlt.2 (by simp)

/-- The stride of a layer, as the host shifts it. -/
theorem shift_word : ∀ l : Fin 12, IntOp.shli .host 1#32 (BitVec.ofNat 32 l.val) = 1#32 <<< l.val := by
  decide

section
variable [Cert.Pre_butterfly_inputs.Facts]

/-- The strides of the layers. -/
def strides : IVec S12x2048 32 :=
  Host.shli (broadcastInDim S12x2048 ![] Facts.bcast_S_S12x2048 (constantI S_ 32 1#32)) (iotaInDim S12x2048 32 0)

/-- The table of the left members. -/
def lefts : IVec S12x2048 32 :=
  subi (muli (broadcastInDim S12x2048 ![] Facts.bcast_S_S12x2048 (constantI S_ 32 2#32)) (iotaInDim S12x2048 32 1))
    (andi (iotaInDim S12x2048 32 1) (subi strides (broadcastInDim S12x2048 ![] Facts.bcast_S_S12x2048 (constantI S_ 32 1#32))))

/-- The stride of layer `l`. -/
theorem strides_apply (l : Fin 12) (p : Fin 2048) : strides (ix2 l p) = 1#32 <<< l.val := by
  rw [← shift_word]
  rfl

/-- The table's element is the left word. -/
theorem lefts_apply (l : Fin 12) (p : Fin 2048) : lefts (ix2 l p) = leftWord l p := by
  have e : lefts (ix2 l p) = 2#32 * BitVec.ofNat 32 p - (BitVec.ofNat 32 p &&& (strides (ix2 l p) - 1#32)) := rfl
  rw [e, strides_apply]
  rfl

/-- All the elements of an array of bits, joined by "and". -/
abbrev allOf {A B : Nat} (v : IVec (⟨2, ![A, B]⟩ : Shape) 1) (h : (⟨2, ![A, B]⟩ : Shape).ReducesTo [0, 1] S_) : IVec S_ 1 :=
  Host.reduce IntOp.andi v (constantI S_ 1 1#1) h Facts.h_S_

/-- If the whole is one, so is every element. -/
theorem allOf_apply {A B : Nat} {v : IVec (⟨2, ![A, B]⟩ : Shape) 1} {h : (⟨2, ![A, B]⟩ : Shape).ReducesTo [0, 1] S_} {j : S_.Idx}
    (e : allOf v h j = 1#1) (i : (⟨2, ![A, B]⟩ : Shape).Idx) : v i = 1#1 :=
  Host.reduce_andi_all v _ h Facts.h_S_ j e i

/-- The precondition is five conditions, each on every element of an array. -/
theorem fn_eq (x : FVec Ideal S8192x4096 .f32) (t : FVec Ideal S12x2048 .f32) (li ri : IVec S12x2048 32) :
    Cert.Pre_butterfly_inputs.fn (F := Ideal) x t li ri
      = andi (andi (andi (andi
          (allOf (cmpf .olt (Host.absf x) (broadcastInDim S8192x4096 ![] Facts.bcast_S_S8192x4096 (constant S_ .f32 0x7F800000#32)))
            Facts.reducesTo_S8192x4096_S_d0_1)
          (allOf (cmpf .olt (Host.absf t) (broadcastInDim S12x2048 ![] Facts.bcast_S_S12x2048 (constant S_ .f32 0x7F800000#32)))
            Facts.reducesTo_S12x2048_S_d0_1))
          (allOf (cmpf .une (Host.cos (extractStridedSlice S5x2048 ![7, 0] t Facts.slices_S12x2048_S5x2048_7_0))
            (broadcastInDim S5x2048 ![] Facts.bcast_S_S5x2048 (constant S_ .f32 0x00000000#32))) Facts.reducesTo_S5x2048_S_d0_1))
          (allOf (cmpi .eq li lefts) Facts.reducesTo_S12x2048_S_d0_1))
          (allOf (cmpi .eq ri (addi lefts strides)) Facts.reducesTo_S12x2048_S_d0_1) := rfl

/-- If a conjunction is one, so are both its parts. -/
theorem and_one {a b : IVec S_ 1} {j : S_.Idx} (h : andi a b j = 1#1) : a j = 1#1 ∧ b j = 1#1 := by
  have h' : a j &&& b j = 1#1 := h
  revert h'
  generalize a j = u
  generalize b j = v
  revert u v
  decide

/-- What the precondition gives. -/
structure Good (x : FVec Ideal S8192x4096 .f32) (t : FVec Ideal S12x2048 .f32) (li ri : IVec S12x2048 32) : Prop where
  data : ∀ (r : Fin 8192) (j : Fin 4096), x (ix2 r j) = (((x (ix2 r j) : EReal).toReal : ℝ) : EReal)
  angle : ∀ (l : Fin 12) (p : Fin 2048), t (ix2 l p) = (((t (ix2 l p) : EReal).toReal : ℝ) : EReal)
  cos : ∀ (k : Fin 5) (p : Fin 2048), Real.cos (t (ix2 (⟨7 + k.val, by omega⟩ : Fin 12) p) : EReal).toReal ≠ 0
  left : ∀ (l : Fin 12) (p : Fin 2048), li (ix2 l p) = BitVec.ofNat 32 (leftOf l p)
  right : ∀ (l : Fin 12) (p : Fin 2048), ri (ix2 l p) = BitVec.ofNat 32 (leftOf l p + 2 ^ l.val)

/-- The precondition gives all of that. -/
theorem good {x : FVec Ideal S8192x4096 .f32} {t : FVec Ideal S12x2048 .f32} {li ri : IVec S12x2048 32}
    (h : Cert.Pre_butterfly_inputs.fn (F := Ideal) x t li ri = fun _ => 1#1) : Good x t li ri := by
  have h0 := congrFun h (Shape.Idx.first Facts.h_S_)
  rw [fn_eq] at h0
  obtain ⟨h1, hr⟩ := and_one h0
  obtain ⟨h2, hl⟩ := and_one h1
  obtain ⟨h3, hc⟩ := and_one h2
  obtain ⟨hx, ht⟩ := and_one h3
  have angle : ∀ (l : Fin 12) (p : Fin 2048), t (ix2 l p) = (((t (ix2 l p) : EReal).toReal : ℝ) : EReal) :=
    fun l p => real_of_abs _ (allOf_apply ht (ix2 l p))
  refine ⟨fun r j => real_of_abs _ (allOf_apply hx (ix2 r j)), angle, fun k p h => ?_, fun l p => ?_, fun l p => ?_⟩
  · have e : Ideal.cmp .une (Ideal.cos (t (ix2 (⟨7 + k.val, by omega⟩ : Fin 12) p))) (Ideal.ofBits .f32 0x00000000#32) = 1#1 := by
      rw [← allOf_apply hc (ix2 k p)]
      pointwise
    rw [angle, Ideal.cos_coe, h] at e
    have hz : Ideal.ofBits .f32 0x00000000#32 = 0 := by simp [Ideal.ofBits, Ideal.ieee]
    rw [hz] at e
    simp [Ideal.cmp] at e
  · have e := IntOp.cmpi_eq.1 (allOf_apply hl (ix2 l p))
    rw [e, lefts_apply, leftWord_eq]
  · have e : ri (ix2 l p) = lefts (ix2 l p) + strides (ix2 l p) := IntOp.cmpi_eq.1 (allOf_apply hr (ix2 l p))
    rw [e, lefts_apply, strides_apply, rightWord_eq]

end

end Cert.Inputs
-- ==== Proof.Angles.lean ====
/- The angles as the host code hands them to the first launch: layer `l`'s angle of a column is that of the pair the
   column belongs to. -/
module

public import proofs.«01_k».proof.Proof.Gen.KernelIdeal.Frame
public import proofs.«01_k».proof.Proof.Rotation
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Angles

open Idealize.ShloMosaic Cert.KernelIdeal Cert.KernelIdeal.Gen Cert.KernelIdeal.Facts Cert.Rotation

/-- A shape of three axes. -/
abbrev B3 (a b c : ℕ) : Shape := ⟨3, ![a, b, c]⟩

/-- Row `l` lies within the table. -/
theorem slices_row : ∀ l : Fin 12, S12x2048.Slices ![l.val, 0] S1x2048 := by decide
/-- A row of pairs is as many numbers as its runs of `2 ^ l` pairs. -/
theorem casts_pairs : ∀ l : Fin 12, S2048.ShapeCasts (B3 (2 ^ (11 - l.val)) 1 (2 ^ l.val)) := by decide
/-- Every run of pairs may be repeated, once for the left and once for the right columns. -/
theorem bcast_pairs : ∀ l : Fin 12, (B3 (2 ^ (11 - l.val)) 1 (2 ^ l.val)).BroadcastsInDim (B3 (2 ^ (11 - l.val)) 2 (2 ^ l.val)) ![0, 1, 2] := by
  decide
/-- The repeated runs are as many numbers as a row has columns. -/
theorem casts_cols : ∀ l : Fin 12, (B3 (2 ^ (11 - l.val)) 2 (2 ^ l.val)).ShapeCasts S4096 := by decide

variable {F : FTy → Type} [FloatOps F]

/-- Layer `l`'s row of angles, repeated for both columns of each pair. -/
def rowOf (v : FVec F S12x2048 .f32) (l : Fin 12) : FVec F S1x4096 .f32 :=
  broadcastInDim S1x4096 ![1] bcast_S4096_S1x4096_1
    (shapeCast S4096 (broadcastInDim (B3 (2 ^ (11 - l.val)) 2 (2 ^ l.val)) ![0, 1, 2] (bcast_pairs l)
      (shapeCast (B3 (2 ^ (11 - l.val)) 1 (2 ^ l.val))
        (shapeCast S2048 (extractStridedSlice S1x2048 ![l.val, 0] v (slices_row l)) shapeCasts_S1x2048_S2048)
        (casts_pairs l))) (casts_cols l))

/-- The rows of all layers. -/
def rows (v : FVec F S12x2048 .f32) : FVec F S12x4096 .f32 :=
  concatenate S12x4096 0 (List.ofFn fun l : Fin 12 => (⟨S1x4096, rowOf v l⟩ : (s : Shape) × (s.Idx → F .f32)))
    concatenates_S1x4096_S1x4096_S1x4096_S1x4096_S1x4096_S1x4096_S1x4096_S1x4096_S1x4096_S1x4096_S1x4096_S1x4096_S12x4096_d0

set_option maxHeartbeats 2000000 in
/-- The first argument of the first launch: the first seven rows, cut into groups. -/
theorem small_eq (V : Valuation τ sig (Elt F)) :
    StableHlo.after hostOps0 V (Proc.devRef .tc main_v74) =
      shapeCast S7x32x128 (extractStridedSlice S7x4096 ![0, 0] (rows (V (Proc.devRef .tc main_arg1))) slices_S12x4096_S7x4096_0_0)
        shapeCasts_S7x4096_S7x32x128 := by
  after_reads_simp
  rfl

set_option maxHeartbeats 2000000 in
/-- The second argument of the first launch: the last five rows. -/
theorem big_eq (V : Valuation τ sig (Elt F)) :
    StableHlo.after hostOps0 V (Proc.devRef .tc main_v75) =
      extractStridedSlice S5x4096 ![7, 0] (rows (V (Proc.devRef .tc main_arg1))) slices_S12x4096_S5x4096_7_0 := by
  after_reads_simp
  rfl

/-- A coordinate on an axis that may have one entry only. -/
theorem unit_or (n x : ℕ) (h0 : n = 1 → 0 < n) (h1 : ¬ n = 1 → x < n) (hx : x < n) :
    (if h : n = 1 then (⟨0, h0 h⟩ : Fin n) else ⟨x, h1 h⟩).val = x := by
  by_cases h : n = 1
  · rw [dif_pos h]; show 0 = x; omega
  · rw [dif_neg h]

/-- A column's angle is its pair's. -/
theorem rowOf_apply (v : FVec F S12x2048 .f32) (l : Fin 12) (j : Fin 4096) (hp : pairOf l j < 2048) :
    rowOf v l (ix2 0 j) = v (ix2 l ⟨pairOf l j, hp⟩) := by
  have hs : 0 < 2 ^ l.val := by positivity
  have hn : 2 ^ (11 - l.val) * (2 * 2 ^ l.val) = 4096 := by
    rw [← pow_succ', ← pow_add, show 11 - l.val + (l.val + 1) = 12 by have := l.2; omega]
    norm_num
  have hq : j.val / (2 * 2 ^ l.val) < 2 ^ (11 - l.val) := Nat.div_lt_of_lt_mul (by rw [Nat.mul_comm, hn]; exact j.2)
  have hb : j.val / 2 ^ l.val % 2 < 2 := Nat.mod_lt _ (by decide)
  have hr : j.val % 2 ^ l.val < 2 ^ l.val := Nat.mod_lt _ hs
  have hj := Nat.div_add_mod j.val (2 ^ l.val)
  have hj2 := Nat.div_add_mod (j.val / 2 ^ l.val) 2
  have hqq : j.val / (2 * 2 ^ l.val) = j.val / 2 ^ l.val / 2 := by rw [Nat.mul_comm, Nat.div_div_eq_div_mul]
  unfold rowOf
  refine (congrArg _ (show _ = ix1 j from ?_)).trans ?_
  · funext a
    match a with
    | ⟨0, _⟩ => rfl
  refine (shapeCast_apply _ (casts_cols l) (ix1 j) (ix3 (n0 := 2 ^ (11 - l.val)) (n1 := 2) (n2 := 2 ^ l.val) ⟨_, hq⟩ ⟨_, hb⟩ ⟨_, hr⟩) ?_).trans ?_
  · rw [Shape.rowMajor_val_three, Shape.rowMajor_val_one]
    show (j.val / (2 * 2 ^ l.val) * 2 + j.val / 2 ^ l.val % 2) * 2 ^ l.val + j.val % 2 ^ l.val = j.val
    rw [hqq, Nat.mul_comm _ 2, hj2, Nat.mul_comm, hj]
  refine (congrArg _ (show _ = ix3 (n0 := 2 ^ (11 - l.val)) (n1 := 1) (n2 := 2 ^ l.val) ⟨_, hq⟩ 0 ⟨_, hr⟩ from ?_)).trans ?_
  · funext a
    match a with
    | ⟨0, _⟩ =>
      exact Fin.ext (unit_or _ _ _ _ (by assumption))
    | ⟨1, _⟩ => rfl
    | ⟨2, _⟩ =>
      exact Fin.ext (unit_or _ _ _ _ (by assumption))
  refine (shapeCast_apply _ (casts_pairs l) _ (ix1 ⟨pairOf l j, hp⟩) ?_).trans ?_
  · rw [Shape.rowMajor_val_three, Shape.rowMajor_val_one]
    show pairOf l j = (j.val / (2 * 2 ^ l.val) * 1 + 0) * 2 ^ l.val + j.val % 2 ^ l.val
    unfold pairOf
    rw [pow_succ', Nat.mul_one, Nat.add_zero]
  refine (shapeCast_apply _ shapeCasts_S1x2048_S2048 _ (ix2 0 ⟨pairOf l j, hp⟩) ?_).trans ?_
  · rw [Shape.rowMajor_val_two, Shape.rowMajor_val_one]
    show 0 * 2048 + pairOf l j = pairOf l j
    omega
  refine congrArg v ?_
  funext a
  match a with
  | ⟨0, _⟩ => exact Fin.ext (Nat.add_zero _)
  | ⟨1, _⟩ => exact Fin.ext (Nat.zero_add _)

/-- The spread row `l` holds, at column `j`, the angle of the column's pair. -/
theorem rows_apply (v : FVec F S12x2048 .f32) (l : Fin 12) (j : Fin 4096) (hp : pairOf l j < 2048) :
    rows v (ix2 l j) = v (ix2 l ⟨pairOf l j, hp⟩) := by
  refine concatenate_ofFn_unit_eq 0 (fun l => rowOf v l) _ (ix2 l j) _ rfl rfl fun n i hn h0 hb => ?_
  have e : n = l := Fin.ext hn.symm
  subst e
  rw [← rowOf_apply v n j hp]
  refine congrArg _ ?_
  funext a
  match a with
  | ⟨0, _⟩ => exact Fin.ext h0
  | ⟨1, _⟩ => exact Fin.ext (hb 1 (by decide))

/-- The first launch's angles of the first seven layers: group by group, that of the column's pair. -/
theorem small_apply (v : FVec F S12x2048 .f32) (l : Fin 7) (g : Fin 32) (j : Fin 128) (hl : l.val < 12) (hp : pairOf l (128 * g + j) < 2048) :
    shapeCast S7x32x128 (extractStridedSlice S7x4096 ![0, 0] (rows v) slices_S12x4096_S7x4096_0_0) shapeCasts_S7x4096_S7x32x128 (ix3 l g j)
      = v (ix2 ⟨l, hl⟩ ⟨pairOf l (128 * g + j), hp⟩) := by
  have hj : 128 * g.val + j.val < 4096 := by have := g.2; have := j.2; omega
  refine (shapeCast_apply _ shapeCasts_S7x4096_S7x32x128 _ (ix2 l ⟨128 * g.val + j.val, hj⟩) ?_).trans ?_
  · rw [Shape.rowMajor_val_three, Shape.rowMajor_val_two]
    show l.val * 4096 + (128 * g.val + j.val) = (l.val * 32 + g.val) * 128 + j.val
    omega
  refine Eq.trans (congrArg (rows v) ?_) (rows_apply v ⟨l, hl⟩ ⟨128 * g.val + j.val, hj⟩ hp)
  funext a
  match a with
  | ⟨0, _⟩ => exact Fin.ext (Nat.zero_add _)
  | ⟨1, _⟩ => exact Fin.ext (Nat.zero_add _)

/-- The first launch's angles of the last five layers: column by column, that of the column's pair. -/
theorem big_apply (v : FVec F S12x2048 .f32) (l : Fin 5) (j : Fin 4096) (hl : 7 + l.val < 12) (hp : pairOf (7 + l) j < 2048) :
    extractStridedSlice S5x4096 ![7, 0] (rows v) slices_S12x4096_S5x4096_7_0 (ix2 l j) = v (ix2 ⟨7 + l, hl⟩ ⟨pairOf (7 + l) j, hp⟩) := by
  refine Eq.trans (congrArg (rows v) ?_) (rows_apply v ⟨7 + l, hl⟩ j hp)
  funext a
  match a with
  | ⟨0, _⟩ => exact Fin.ext rfl
  | ⟨1, _⟩ => exact Fin.ext (Nat.zero_add _)

end Cert.Angles

end
-- ==== Proof.Chunks.lean ====
/- An array of `m` rows and 4096 columns put together from `n` pieces of `w` columns each, and the two ways in which the
   kernel does so: the pieces as they are, or every pair of neighbouring pieces exchanged. -/
module

public import Idealize.ShloMosaic.Lib.Pointwise
public import Idealize.ShloMosaic.Lib.Pipeline.Value

@[expose] public section

noncomputable section

namespace Cert.Chunks

open Idealize.ShloMosaic

/-- `m` rows of `w` columns. -/
abbrev Blk (m w : ℕ) : Shape := ⟨2, ![m, w]⟩

/-- The other piece of piece `k`'s pair. -/
def mate (k : ℕ) : ℕ := k + 1 - 2 * (k % 2)

/-- The other piece of a pair is one of the pieces. -/
theorem mate_lt {n : ℕ} (h2 : n % 2 = 0) {k : ℕ} (hk : k < n) : mate k < n := by
  unfold mate; omega

/-- Piece `k` lies within the 4096 columns. -/
theorem piece_slices (m n w : ℕ) (h : n * w = 4096) (k : ℕ) (hk : k < n) :
    (Blk m 4096).Slices ![0, k * w] (Blk m w) := by
  refine ⟨rfl, fun a => ?_⟩
  match a with
  | ⟨0, _⟩ => exact (Nat.zero_add m).le
  | ⟨1, _⟩ =>
    show k * w + w ≤ 4096
    have := Nat.mul_le_mul_right w (Nat.succ_le_of_lt hk)
    rw [Nat.succ_mul, h] at this
    exact this

/-- `n` pieces of `w` columns fill the 4096 columns. -/
theorem pieces_concat {α : Type} (m n w : ℕ) (h : n * w = 4096) (h2 : 2 ≤ n) (f : Fin n → ((Blk m w).Idx → α)) :
    Shape.Concatenates ((List.ofFn fun k : Fin n => (⟨Blk m w, f k⟩ : (s : Shape) × (s.Idx → α))).map (·.1)) (Blk m 4096) 1 := by
  have e : (List.ofFn fun k : Fin n => (⟨Blk m w, f k⟩ : (s : Shape) × (s.Idx → α))).map (·.1) = List.replicate n (Blk m w) := by
    rw [List.map_ofFn]; exact List.ofFn_const _ _
  rw [e]
  refine ⟨by simpa using h2, fun s hs => ?_, ?_⟩
  · rw [List.eq_of_mem_replicate hs]
    refine ⟨rfl, fun b hb => ?_⟩
    match b, hb with
    | ⟨0, _⟩, _ => rfl
    | ⟨1, _⟩, hb => exact absurd rfl hb
  · rw [List.map_replicate, List.sum_replicate]
    show n * w = 4096
    exact h

variable {α : Type}

/-- The pieces `f 0 … f (n - 1)` side by side. -/
def glue (m n w : ℕ) (h : n * w = 4096) (h2 : 2 ≤ n) (f : Fin n → ((Blk m w).Idx → α)) : (Blk m 4096).Idx → α :=
  concatenate (Blk m 4096) 1 (List.ofFn fun k : Fin n => ⟨Blk m w, f k⟩) (pieces_concat m n w h h2 f)

/-- Piece `k` of an array. -/
def piece (m n w : ℕ) (h : n * w = 4096) (x : (Blk m 4096).Idx → α) (k : ℕ) (hk : k < n) : (Blk m w).Idx → α :=
  extractStridedSlice (Blk m w) ![0, k * w] x (piece_slices m n w h k hk)

/-- Column `j` of the pieces side by side is column `j % w` of piece `j / w`. -/
theorem glue_apply (m n w : ℕ) (h : n * w = 4096) (h2 : 2 ≤ n) (hw : 0 < w) (f : Fin n → ((Blk m w).Idx → α)) (r : Fin m) (j : Fin 4096) :
    glue m n w h h2 f (ix2 r j)
      = f ⟨j.val / w, Nat.div_lt_of_lt_mul (by rw [Nat.mul_comm, h]; exact j.2)⟩ (ix2 r ⟨j.val % w, Nat.mod_lt _ hw⟩) := by
  unfold glue
  refine concatenate_ofFn_apply (s₁ := Blk m w) (t := Blk m 4096) 1 f _ rfl w rfl (ix2 r j) _ rfl _ rfl fun b hb => ?_
  match b, hb with
  | ⟨0, _⟩, _ => rfl
  | ⟨1, _⟩, hb => exact absurd rfl hb

/-- Column `i` of piece `k` is column `k * w + i`. -/
theorem piece_apply (m n w : ℕ) (h : n * w = 4096) (x : (Blk m 4096).Idx → α) (k : ℕ) (hk : k < n) (r : Fin m) (i : Fin w)
    (hj : k * w + i.val < 4096) :
    piece m n w h x k hk (ix2 r i) = x (ix2 r ⟨k * w + i.val, hj⟩) := by
  unfold piece extractStridedSlice
  refine congrArg x (funext fun a => ?_)
  match a with
  | ⟨0, _⟩ => exact Fin.ext (Nat.zero_add _)
  | ⟨1, _⟩ => rfl

end Cert.Chunks

end
-- ==== Proof.Apply.lean ====
/- The second launch's body, by its parts: a product with each group's matrix, then five layers without their cosines, then one
   multiplication by the products of all five. -/
module

public import proofs.«01_k».proof.Proof.Chunks
public import proofs.«01_k».proof.Proof.Gen.KernelIdeal.Frame

@[expose] public section

set_option maxRecDepth 16384

noncomputable section

namespace Cert.Apply

open Idealize.ShloMosaic Cert.KernelIdeal Cert.KernelIdeal.Gen Cert.KernelIdeal.Facts Cert.Chunks

variable {F : FTy → Type} [FloatOps F]

/-- The matrix of group `g` lies within the 32 matrices. -/
theorem group_inb (g : ℕ) (hg : g < 32) (a : Fin S32x128x128.rank) :
    (![g, 0, 0] : Fin 3 → ℕ) a + S1x128x128.size a ≤ S32x128x128.size a := by
  match a with
  | ⟨0, _⟩ => exact hg
  | ⟨1, _⟩ => exact Nat.le_refl _
  | ⟨2, _⟩ => exact Nat.le_refl _

/-- Group `g`'s columns times its matrix. -/
def dotBlk (x : FVec F S512x4096 .f32) (m : Vec F S32x128x128 .f32) (g : Fin 32) : FVec F S512x128 .f32 :=
  matmul dot_S512x128_S128x128_S512x128_1_0_0_1_n_n none (piece 512 32 128 rfl x g g.2)
    (shapeCast S128x128 (View.ld m (Rect.unit (s := S32x128x128) ![g, 0, 0] S1x128x128.size (group_inb g g.2)) : Vec F S1x128x128 .f32)
      shapeCasts_S1x128x128_S128x128)
    (constant S512x128 .f32 0x00000000#32)

/-- A row laid over 512 rows. -/
theorem row_broadcasts (w : ℕ) : (Blk 1 w).Broadcasts (Blk 512 w) :=
  ⟨Nat.le_refl _, fun a => by
    match a with
    | ⟨0, _⟩ => exact Or.inl rfl
    | ⟨1, _⟩ => exact Or.inr fun _ => rfl⟩

/-- The pieces of one layer: each plus the other of its pair times its piece of the table. -/
def mixBlk (n w : ℕ) (h : n * w = 4096) (h2 : n % 2 = 0) (y : FVec F S512x4096 .f32) (t : FVec F S1x4096 .f32) (k : Fin n) :
    FVec F (Blk 512 w) .f32 :=
  addf (piece 512 n w h y k k.2)
    (mulf (piece 512 n w h y (mate k) (mate_lt h2 k.2)) (broadcastTo (Blk 512 w) (piece 1 n w h t k k.2) (row_broadcasts w)))

/-- One layer without the cosines, on all the columns. -/
def mix (n w : ℕ) (h : n * w = 4096) (h1 : 2 ≤ n) (h2 : n % 2 = 0) (y : FVec F S512x4096 .f32) (t : FVec F S1x4096 .f32) : FVec F S512x4096 .f32 :=
  glue 512 n w h h1 (mixBlk n w h h2 y t)

/-- A load of one row, as the vector of the loaded shape. -/
def row (v : FVec F S1x4096 .f32) : FVec F S1x4096 .f32 := shapeCast S1x4096 v shapeCasts_S1x4096_S1x4096

/-- The block after the first seven layers. -/
def y7 (x0 : Vec F S512x4096 .f32) (x1 : Vec F S32x128x128 .f32) : FVec F S512x4096 .f32 :=
  glue 512 32 128 rfl (by decide) (dotBlk (View.ld x0 r1_0) x1)
/-- The block after the layer of stride 128, without its cosines. -/
def y8 (x0 : Vec F S512x4096 .f32) (x1 : Vec F S32x128x128 .f32) (x2 : Vec F S5x4096 .f32) : FVec F S512x4096 .f32 :=
  mix 32 128 rfl (by decide) rfl (y7 x0 x1) (row (View.ld x2 r1_33))
/-- The block after the layer of stride 256, without the cosines. -/
def y9 (x0 : Vec F S512x4096 .f32) (x1 : Vec F S32x128x128 .f32) (x2 : Vec F S5x4096 .f32) : FVec F S512x4096 .f32 :=
  mix 16 256 rfl (by decide) rfl (y8 x0 x1 x2) (row (View.ld x2 r1_34))
/-- The block after the layer of stride 512, without the cosines. -/
def y10 (x0 : Vec F S512x4096 .f32) (x1 : Vec F S32x128x128 .f32) (x2 : Vec F S5x4096 .f32) : FVec F S512x4096 .f32 :=
  mix 8 512 rfl (by decide) rfl (y9 x0 x1 x2) (row (View.ld x2 r1_35))
/-- The block after the layer of stride 1024, without the cosines. -/
def y11 (x0 : Vec F S512x4096 .f32) (x1 : Vec F S32x128x128 .f32) (x2 : Vec F S5x4096 .f32) : FVec F S512x4096 .f32 :=
  mix 4 1024 rfl (by decide) rfl (y10 x0 x1 x2) (row (View.ld x2 r1_36))
/-- The block after the layer of stride 2048, without the cosines. -/
def y12 (x0 : Vec F S512x4096 .f32) (x1 : Vec F S32x128x128 .f32) (x2 : Vec F S5x4096 .f32) : FVec F S512x4096 .f32 :=
  mix 2 2048 rfl (by decide) rfl (y11 x0 x1 x2) (row (View.ld x2 r1_37))

/-- What the second launch writes for a block: the last layer's values times the products of cosines. -/
theorem out1_4_eq (x0 : Vec F S512x4096 .f32) (x1 : Vec F S32x128x128 .f32) (x2 : Vec F S5x4096 .f32) (x3 : Vec F S1x4096 .f32) :
    out1_4 x0 x1 x2 x3 = View.canon [⟨r1_0, mulf (y12 x0 x1 x2)
      (broadcastTo S512x4096 (row (View.ld x3 r1_38)) broadcasts_S1x4096_S512x4096)⟩] := by
  unfold out1_4
  rfl

end Cert.Apply

end
-- ==== Proof.Words.lean ====
/- The column's bit as the kernel's integer arithmetic finds it: a quotient rounded down, then a remainder that takes
   the divisor's sign. On column numbers and powers of two it is bit `l` of the column. -/
module

public import proofs.«01_k».proof.Proof.Gen.KernelIdeal.Skeleton
public import Idealize.ShloMosaic.Lib.Pointwise

@[expose] public section

noncomputable section

namespace Cert.Tables

open Idealize.ShloMosaic Cert.KernelIdeal Cert.KernelIdeal.Gen

/-- The quotient by `s`, rounded down, of every element. -/
def floorV (S : Shape) (v : IVec S 32) (s : BitVec 32) : IVec S 32 :=
  select
    (andi
      (cmpi .ne
        (subi (extui 32 (cmpi .sgt v (broadcast S 0#32)) natLt_1_32) (extui 32 (cmpi .slt v (broadcast S 0#32)) natLt_1_32))
        (broadcast S (Scalar.subi (Scalar.extui (Scalar.cmpi .sgt s 0#32)) (Scalar.extui (Scalar.cmpi .slt s 0#32)))))
      (cmpi .ne (remsi v (broadcast S s)) (broadcast S 0#32)))
    (subi (divsi v (broadcast S s)) (broadcast S 1#32))
    (divsi v (broadcast S s))

/-- The remainder by two of every element, never negative. -/
def parityV (S : Shape) (hS : S.Broadcasts S) (q : IVec S 32) : IVec S 32 :=
  let two : BitVec 32 := Scalar.select (Scalar.cmpi .eq 2#32 0#32) 1#32 2#32
  let r : IVec S 32 := remsi q (broadcast S two)
  select
    (andi
      (xori (cmpi .slt r (broadcast S 0#32)) (broadcastTo S (broadcast S (Scalar.cmpi .slt two 0#32)) hS))
      (cmpi .ne r (broadcast S 0#32)))
    (addi r (broadcast S two))
    r

/-- The bit of every column number in `v`, for the layer of stride `s`. -/
def bitV (S : Shape) (hS : S.Broadcasts S) (v : IVec S 32) (s : BitVec 32) : IVec S 32 := parityV S hS (floorV S v s)

/-- The same on one word. -/
def bitW (c s : BitVec 32) : BitVec 32 :=
  bitV ⟨0, ![]⟩ ⟨le_rfl, fun a => a.elim0⟩ (fun _ => c) s (fun a => a.elim0)

/-- On a vector of words it is the same, word by word. -/
theorem bitV_apply (S : Shape) (hS : S.Broadcasts S) (v : IVec S 32) (s : BitVec 32) (i : S.Idx) :
    bitV S hS v s i = bitW (v i) s := rfl

/-- On a column number within a group and a stride of a layer within the groups, it is the column's bit. -/
theorem bitW_small : ∀ l : Fin 7, ∀ j : Fin 128, bitW (BitVec.ofNat 32 j) (BitVec.ofNat 32 (2 ^ l.val)) = BitVec.ofNat 32 (j.val / 2 ^ l.val % 2) := by
  decide +kernel

/-- On a column number of the whole row and a stride of one of the last layers, it is the column's bit. -/
theorem bitW_big : ∀ l : Fin 5, ∀ j : Fin 4096, bitW (BitVec.ofNat 32 j) (BitVec.ofNat 32 (2 ^ (7 + l.val))) = BitVec.ofNat 32 (j.val / 2 ^ (7 + l.val) % 2) := by
  decide +kernel

/-- The partner's row number, as a word. -/
theorem partner_small : ∀ l : Fin 7, ∀ j : Fin 128,
    BitVec.ofNat 32 j + BitVec.ofNat 32 (2 ^ l.val) * (1#32 - 2#32 * BitVec.ofNat 32 (j.val / 2 ^ l.val % 2))
      = BitVec.ofNat 32 (if j.val / 2 ^ l.val % 2 = 0 then j.val + 2 ^ l.val else j.val - 2 ^ l.val) := by
  decide +kernel

end Cert.Tables

end
-- ==== Proof.Build.lean ====
/- The first launch's body, by its parts: the matrices of the first seven layers and their product, the partner factors of the last five
   layers, and the products of their cosines. -/
module

public import proofs.«01_k».proof.Proof.Words
public import proofs.«01_k».proof.Proof.Chunks
public import proofs.«01_k».proof.Proof.Gen.KernelIdeal.Frame

@[expose] public section

set_option maxRecDepth 16384

noncomputable section

namespace Cert.Tables

open Idealize.ShloMosaic Cert.KernelIdeal Cert.KernelIdeal.Gen Cert.KernelIdeal.Facts Cert.Chunks

variable {F : FTy → Type} [FloatOps F]

/-- A row of numbers per group, laid over all the rows of the group's matrix. -/
def spread (v : FVec F S32x128 .f32) : FVec F S32x128x128 .f32 :=
  broadcastTo S32x128x128 (shapeCast S32x1x128 v shapeCasts_S32x128_S32x1x128) broadcasts_S32x1x128_S32x128x128

/-- The row number of every element of the groups' matrices. -/
def rowNo : IVec S32x128x128 32 := iota .tc S32x128x128 32 [1] iota_S32x128x128_d1_w32
/-- The column number of every element of the groups' matrices. -/
def colNo : IVec S32x128x128 32 := iota .tc S32x128x128 32 [2] iota_S32x128x128_d2_w32

/-- One where the condition holds, zero elsewhere. -/
def ind (c : IVec S32x128x128 1) : FVec F S32x128x128 .f32 :=
  select c (broadcast S32x128x128 (Scalar.ofBits .f32 0x3F800000#32)) (broadcast S32x128x128 (Scalar.ofBits .f32 0x00000000#32))

/-- The sign of the sine, column by column. -/
def signV (S : Shape) (b : IVec S 32) : FVec F S .f32 :=
  select (cmpi .eq b (broadcast S 0#32)) (broadcast S (Scalar.ofBits .f32 0x3F800000#32)) (broadcast S (Scalar.ofBits .f32 0xBF800000#32))

/-- The column's bit in a group's matrix. -/
def colBit (s : BitVec 32) : IVec S32x128x128 32 := bitV S32x128x128 broadcasts_S32x128x128_S32x128x128 colNo s

/-- The matrices of one layer of stride `s`, a group each, from its angles. -/
def layerMat (s : BitVec 32) (th : FVec F S1x32x128 .f32) : FVec F S32x128x128 .f32 :=
  addf (mulf (ind (cmpi .eq rowNo colNo)) (spread (cos (shapeCast S32x128 th shapeCasts_S1x32x128_S32x128))))
    (mulf (ind (cmpi .eq rowNo
        (addi colNo (muli (broadcast S32x128x128 s)
          (subi (broadcast S32x128x128 1#32) (muli (broadcast S32x128x128 2#32) (colBit s)))))))
      (mulf (signV _ (colBit s)) (spread (sin (shapeCast S32x128 th shapeCasts_S1x32x128_S32x128)))))

/-- Group by group, the product of two matrices. -/
def times (a b : FVec F S32x128x128 .f32) : FVec F S32x128x128 .f32 :=
  matmul dot_S32x128x128_S32x128x128_S32x128x128_2_1_1_2_0_0 (some .fp32) a b (constant S32x128x128 .f32 0x00000000#32)

/-- What the first launch writes as the matrices: the product of the seven layers' matrices. -/
theorem out0_2_eq (x0 : Vec F S7x32x128 .f32) (x1 : Vec F S5x4096 .f32) :
    out0_2 x0 x1 = View.canon [⟨r0_7,
      times (times (times (times (times (times (layerMat 1#32 (View.ld x0 r0_0)) (layerMat 2#32 (View.ld x0 r0_1)))
        (layerMat 4#32 (View.ld x0 r0_2))) (layerMat 8#32 (View.ld x0 r0_3))) (layerMat 16#32 (View.ld x0 r0_4)))
        (layerMat 32#32 (View.ld x0 r0_5))) (layerMat 64#32 (View.ld x0 r0_6))⟩] := by
  unfold out0_2
  rfl

/-- A row with every pair of neighbouring pieces of width `w` exchanged. -/
def swapRow (n w : ℕ) (h : n * w = 4096) (h1 : 2 ≤ n) (h2 : n % 2 = 0) (d : FVec F S1x4096 .f32) : FVec F S1x4096 .f32 :=
  glue 1 n w h h1 fun k => piece 1 n w h d (mate k) (mate_lt h2 k.2)

/-- The bit of every column of a whole row. -/
def rowBit (s : BitVec 32) : IVec S1x4096 32 :=
  bitV S1x4096 broadcasts_S1x4096_S1x4096 (iota .tc S1x4096 32 [1] iota_S1x4096_d1_w32) s

/-- A load of one row, as the vector of the loaded shape. -/
def row (v : FVec F S1x4096 .f32) : FVec F S1x4096 .f32 := shapeCast S1x4096 v shapeCasts_S1x4096_S1x4096

/-- One row of the table of partner factors: the layer of stride `s = w`. -/
def tabRow (n w : ℕ) (h : n * w = 4096) (h1 : 2 ≤ n) (h2 : n % 2 = 0) (s : BitVec 32) (th d : FVec F S1x4096 .f32) : FVec F S1x4096 .f32 :=
  divf (mulf (mulf (signV _ (rowBit s)) (sin (row th))) (swapRow n w h h1 h2 d)) (mulf (cos (row th)) d)

/-- The product of cosines after one more layer. -/
def denRow (th d : FVec F S1x4096 .f32) : FVec F S1x4096 .f32 := mulf (cos (row th)) d

/-- The product of no cosines. -/
def den0 : FVec F S1x4096 .f32 := broadcast S1x4096 (Scalar.ofBits .f32 0x3F800000#32)
/-- The product of the cosines of the layer of stride 128. -/
def den1 (x1 : Vec F S5x4096 .f32) : FVec F S1x4096 .f32 := denRow (View.ld x1 r0_8) den0
/-- The product of the cosines up to stride 256. -/
def den2 (x1 : Vec F S5x4096 .f32) : FVec F S1x4096 .f32 := denRow (View.ld x1 r0_9) (den1 x1)
/-- The product of the cosines up to stride 512. -/
def den3 (x1 : Vec F S5x4096 .f32) : FVec F S1x4096 .f32 := denRow (View.ld x1 r0_10) (den2 x1)
/-- The product of the cosines up to stride 1024. -/
def den4 (x1 : Vec F S5x4096 .f32) : FVec F S1x4096 .f32 := denRow (View.ld x1 r0_11) (den3 x1)
/-- The product of the cosines up to stride 2048. -/
def den5 (x1 : Vec F S5x4096 .f32) : FVec F S1x4096 .f32 := denRow (View.ld x1 r0_12) (den4 x1)

/-- What the first launch writes as the products of cosines. -/
theorem out0_4_eq (x0 : Vec F S7x32x128 .f32) (x1 : Vec F S5x4096 .f32) :
    out0_4 x0 x1 = View.canon [⟨r0_13, den5 x1⟩] := by
  unfold out0_4
  rfl

/-- What the first launch writes as the partner factors: one row per layer. -/
theorem out0_3_eq (x0 : Vec F S7x32x128 .f32) (x1 : Vec F S5x4096 .f32) :
    out0_3 x0 x1 = View.canon [
      ⟨r0_12, tabRow 2 2048 rfl (by decide) rfl 2048#32 (View.ld x1 r0_12) (den4 x1)⟩,
      ⟨r0_11, tabRow 4 1024 rfl (by decide) rfl 1024#32 (View.ld x1 r0_11) (den3 x1)⟩,
      ⟨r0_10, tabRow 8 512 rfl (by decide) rfl 512#32 (View.ld x1 r0_10) (den2 x1)⟩,
      ⟨r0_9, tabRow 16 256 rfl (by decide) rfl 256#32 (View.ld x1 r0_9) (den1 x1)⟩,
      ⟨r0_8, tabRow 32 128 rfl (by decide) rfl 128#32 (View.ld x1 r0_8) den0⟩] := by
  unfold out0_3
  rfl

end Cert.Tables

end
-- ==== Proof.TablesValue.lean ====
/- What the first launch leaves, as reals: the products of the first seven layers' matrices, the partner factors of the
   last five layers, and the products of their cosines. -/
module

public import proofs.«01_k».proof.Proof.Build
public import proofs.«01_k».proof.Proof.Rotation
public import Idealize.ShloMosaic.Lib.Affine
public import Idealize.ShloMosaic.Lib.IdealHost
public import Idealize.ShloMosaic.Lib.Pipeline.ValueKit

@[expose] public section

set_option maxRecDepth 16384

noncomputable section

namespace Cert.Tables

open Idealize.ShloMosaic Cert.KernelIdeal Cert.KernelIdeal.Gen Cert.KernelIdeal.Facts Cert.Chunks Cert.Rotation

/-! ## Words and constants -/

/-- The pattern of the f32 number minus one. -/
theorem neg_one : Ideal.ofBits .f32 0xBF800000#32 = ((-1 : ℝ) : EReal) := by
  simp [Ideal.ofBits, Ideal.ieee, -EReal.coe_mul, -EReal.coe_neg]; norm_num

/-- A selection on the equality of two small numbers written as words. -/
theorem select_word_eq {α : Type} {a b : ℕ} (ha : a < 2 ^ 32) (hb : b < 2 ^ 32) (x y : α) :
    Scalar.select (IntOp.cmpi CmpIPredicate.eq (BitVec.ofNat 32 a) (BitVec.ofNat 32 b)) x y = if a = b then x else y := by
  unfold Scalar.select
  refine if_congr ?_ rfl rfl
  rw [show (1 : BitVec 1) = 1#1 from rfl, IntOp.cmpi_eq]
  refine ⟨fun h => ?_, fun h => h ▸ rfl⟩
  have := congrArg BitVec.toNat h
  rwa [BitVec.toNat_ofNat, BitVec.toNat_ofNat, Nat.mod_eq_of_lt ha, Nat.mod_eq_of_lt hb] at this

/-- The sign, from the bit. -/
theorem sign_of_bit (l j : ℕ) :
    Scalar.select (IntOp.cmpi CmpIPredicate.eq (BitVec.ofNat 32 (j / 2 ^ l % 2)) 0#32) (1 : EReal) (Ideal.ofBits FTy.f32 3212836864#32)
      = ((sg l j : ℝ) : EReal) := by
  rw [show (0#32 : BitVec 32) = BitVec.ofNat 32 0 from rfl,
    select_word_eq (by have := Nat.mod_lt (j / 2 ^ l) two_pos; omega) (by norm_num), neg_one]
  unfold sg
  split_ifs <;> rfl

/-- A finite sum of reals, read in the extended reals. -/
theorem coe_sum {n : ℕ} (f : Fin n → ℝ) : (∑ k : Fin n, ((f k : ℝ) : EReal)) = ((∑ k : Fin n, f k : ℝ) : EReal) := by
  induction n with
  | zero => simp
  | succ n ih => rw [Fin.sum_univ_succ, Fin.sum_univ_succ, ih, EReal.coe_add]

/-! ## The matrices -/

/-- A product of the groups' matrices, read at an element. -/
theorem times_apply (a b : FVec Ideal S32x128x128 .f32) (g : Fin 32) (i j : Fin 128) :
    times a b (ix3 g i j) = ∑ k : Fin 128, a (ix3 g i k) * b (ix3 g k j) := by
  pointwise [times]

/-- One layer's matrices are the layer's entries. -/
theorem layerMat_apply (th : ℕ → ℕ → ℝ) (l : Fin 7) (v : FVec Ideal S1x32x128 .f32)
    (hv : ∀ (g : Fin 32) (j : Fin 128), v (ix3 0 g j) = ((th l (128 * g + j) : ℝ) : EReal)) (g : Fin 32) (i j : Fin 128) :
    layerMat (BitVec.ofNat 32 (2 ^ l.val)) v (ix3 g i j) = ((entry th l g i j : ℝ) : EReal) := by
  pointwise [layerMat, ind, rowNo, colNo, signV, colBit, spread, bitV_apply]
  have hp : part l j < 128 := part_lt l.2 j.2
  rw [hv, Ideal.cos_coe, Ideal.sin_coe, bitW_small, sign_of_bit]
  unfold IntOp.addi IntOp.muli IntOp.subi
  rw [partner_small, select_word_eq (by have := i.2; omega) (by have := j.2; omega),
    show (if j.val / 2 ^ l.val % 2 = 0 then j.val + 2 ^ l.val else j.val - 2 ^ l.val) = part l j from rfl,
    select_word_eq (by have := i.2; omega) (by omega)]
  unfold entry
  rw [EReal.coe_add]
  split_ifs <;> simp [EReal.coe_mul]

/-- A product of two families of real matrices. -/
theorem times_real (A B : ℕ → ℕ → ℕ → ℝ) (a b : FVec Ideal S32x128x128 .f32)
    (ha : ∀ (g : Fin 32) (i j : Fin 128), a (ix3 g i j) = ((A g i j : ℝ) : EReal))
    (hb : ∀ (g : Fin 32) (i j : Fin 128), b (ix3 g i j) = ((B g i j : ℝ) : EReal)) (g : Fin 32) (i j : Fin 128) :
    times a b (ix3 g i j) = ((∑ k : Fin 128, A g i k * B g k j : ℝ) : EReal) := by
  rw [times_apply, ← coe_sum]
  exact Finset.sum_congr rfl fun k _ => by rw [ha, hb, EReal.coe_mul]

/-- The angles of the first seven layers, as the launch reads them. -/
def SmallAngles (th : ℕ → ℕ → ℝ) (x0 : Vec Ideal S7x32x128 .f32) : Prop :=
  ∀ (l : Fin 7) (g : Fin 32) (j : Fin 128), x0 (ix3 l g j) = ((th l (128 * g + j) : ℝ) : EReal)

/-- The angles of the last five layers, as the launch reads them. -/
def BigAngles (th : ℕ → ℕ → ℝ) (x1 : Vec Ideal S5x4096 .f32) : Prop :=
  ∀ (l : Fin 5) (j : Fin 4096), x1 (ix2 l j) = ((th (7 + l) j : ℝ) : EReal)

/-- One layer's matrices, from a load of the layer's angles. -/
theorem loaded_layer (th : ℕ → ℕ → ℝ) (x0 : Vec Ideal S7x32x128 .f32) (h : SmallAngles th x0) (l : Fin 7) (inb)
    (g : Fin 32) (i j : Fin 128) :
    layerMat (F := Ideal) (BitVec.ofNat 32 (2 ^ l.val)) (View.ld x0 (Rect.unit (s := S7x32x128) ![l.val, 0, 0] S1x32x128.size inb)) (ix3 g i j)
      = ((entry th l g i j : ℝ) : EReal) := by
  refine layerMat_apply th l _ (fun g j => ?_) g i j
  rw [← h l g j]
  refine View.ld_unit_apply_of _ _ _ _ _ _ fun a => ?_
  match a with
  | ⟨0, _⟩ => rfl
  | ⟨1, _⟩ => exact (Nat.zero_add _).symm
  | ⟨2, _⟩ => exact (Nat.zero_add _).symm

/-- The first launch's matrices are the products of the first seven layers. -/
theorem out0_2_apply (th : ℕ → ℕ → ℝ) (x0 : Vec Ideal S7x32x128 .f32) (x1 : Vec Ideal S5x4096 .f32) (h : SmallAngles th x0)
    (g : Fin 32) (i j : Fin 128) : out0_2 x0 x1 (ix3 g i j) = ((prod th g 6 i j : ℝ) : EReal) := by
  rw [out0_2_eq, View.canon_cons_unit_lit _ _ _ (by decide)]
  have s : ∀ (n : ℕ) (hn : n + 1 < 7) (a : FVec Ideal S32x128x128 .f32) (inb),
      (∀ (g : Fin 32) (i j : Fin 128), a (ix3 g i j) = ((prod th g n i j : ℝ) : EReal)) → ∀ (g : Fin 32) (i j : Fin 128),
      times a (layerMat (BitVec.ofNat 32 (2 ^ (n + 1))) (View.ld x0 (Rect.unit (s := S7x32x128) ![n + 1, 0, 0] S1x32x128.size inb))) (ix3 g i j)
        = ((prod th g (n + 1) i j : ℝ) : EReal) := fun n hn a inb ha g i j =>
    times_real (fun g => prod th g n) (fun g => entry th (n + 1) g) _ _ ha (loaded_layer th x0 h ⟨n + 1, hn⟩ inb) g i j
  exact s 5 (by decide) _ _ (s 4 (by decide) _ _ (s 3 (by decide) _ _ (s 2 (by decide) _ _ (s 1 (by decide) _ _
    (s 0 (by decide) _ _ (loaded_layer th x0 h 0 _)))))) g i j

/-! ## The tables of the last layers -/

/-- A loaded row, read at an element. -/
theorem row_apply (v : FVec Ideal S1x4096 .f32) (j : Fin 4096) : row v (ix2 0 j) = v (ix2 0 j) := by
  pointwise [row]

/-- Exchanging neighbouring pieces of `2 ^ l` columns reads the partner's column. -/
theorem swapRow_apply (l n : ℕ) (hl : l < 12) (h : n * 2 ^ l = 4096) (h1 : 2 ≤ n) (h2 : n % 2 = 0) (d : FVec Ideal S1x4096 .f32) (j : Fin 4096) :
    swapRow n (2 ^ l) h h1 h2 d (ix2 0 j) = d (ix2 0 ⟨part l j, part_lt_big hl j.2⟩) := by
  have e : mate (j.val / 2 ^ l) * 2 ^ l + j.val % 2 ^ l = part l j := mate_column l j
  unfold swapRow
  rw [glue_apply 1 n (2 ^ l) h h1 (by positivity)]
  rw [piece_apply 1 n (2 ^ l) h d _ _ 0 _ (by rw [e]; exact part_lt_big hl j.2)]
  exact congrArg d (congrArg (ix2 0) (Fin.ext e))

/-- A row of partner factors. -/
theorem tabRow_apply (th : ℕ → ℕ → ℝ) (k : Fin 5) (n : ℕ) (h : n * 2 ^ (7 + k.val) = 4096) (h1 : 2 ≤ n) (h2 : n % 2 = 0)
    (v d : FVec Ideal S1x4096 .f32) (hc : ∀ k < 5, ∀ j < 4096, Real.cos (th (7 + k) j) ≠ 0)
    (hv : ∀ j : Fin 4096, v (ix2 0 j) = ((th (7 + k) j : ℝ) : EReal))
    (hd : ∀ j : Fin 4096, d (ix2 0 j) = ((den th k j : ℝ) : EReal)) (j : Fin 4096) :
    tabRow n (2 ^ (7 + k.val)) h h1 h2 (BitVec.ofNat 32 (2 ^ (7 + k.val))) v d (ix2 0 j) = ((tab th k j : ℝ) : EReal) := by
  have hl : 7 + k.val < 12 := by have := k.2; omega
  pointwise [tabRow, signV, rowBit, bitV_apply]
  rw [row_apply, hv, swapRow_apply _ n hl, hd, hd, Ideal.cos_coe, Ideal.sin_coe, bitW_big, sign_of_bit, ← EReal.coe_mul, ← EReal.coe_mul,
    ← EReal.coe_mul, Ideal.div_coe (mul_ne_zero (hc k k.2 j j.2) (den_ne_zero th k (by have := k.2; omega) hc j.2)), ← EReal.coe_mul]
  unfold tab
  rw [mul_one_div]

/-- One more cosine. -/
theorem denRow_apply (th : ℕ → ℕ → ℝ) (k : ℕ) (v d : FVec Ideal S1x4096 .f32)
    (hv : ∀ j : Fin 4096, v (ix2 0 j) = ((th (7 + k) j : ℝ) : EReal))
    (hd : ∀ j : Fin 4096, d (ix2 0 j) = ((den th k j : ℝ) : EReal)) (j : Fin 4096) :
    denRow v d (ix2 0 j) = ((den th (k + 1) j : ℝ) : EReal) := by
  pointwise [denRow]
  rw [row_apply, hv, hd, Ideal.cos_coe, ← EReal.coe_mul]
  rfl

/-- A load of one layer's angles. -/
theorem loaded_row (th : ℕ → ℕ → ℝ) (x1 : Vec Ideal S5x4096 .f32) (h : BigAngles th x1) (k : Fin 5) (inb) (j : Fin 4096) :
    View.ld x1 (Rect.unit (s := S5x4096) ![k.val, 0] S1x4096.size inb) (ix2 0 j) = ((th (7 + k) j : ℝ) : EReal) := by
  rw [← h k j]
  refine View.ld_unit_apply_of _ _ _ _ _ _ fun a => ?_
  match a with
  | ⟨0, _⟩ => rfl
  | ⟨1, _⟩ => exact (Nat.zero_add _).symm

section
variable (th : ℕ → ℕ → ℝ) (x1 : Vec Ideal S5x4096 .f32) (h : BigAngles th x1)
include h

/-- The products of cosines hold the real products, from no layer on. -/
theorem den0_apply (j : Fin 4096) : (den0 : FVec Ideal S1x4096 .f32) (ix2 0 j) = ((den th 0 j : ℝ) : EReal) := by
  pointwise [den0]
  rfl
/-- The same after one layer. -/
theorem den1_apply (j : Fin 4096) : den1 x1 (ix2 0 j) = ((den th 1 j : ℝ) : EReal) :=
  denRow_apply th 0 _ _ (loaded_row th x1 h 0 _) (den0_apply th x1 h) j
/-- The same after two layers. -/
theorem den2_apply (j : Fin 4096) : den2 x1 (ix2 0 j) = ((den th 2 j : ℝ) : EReal) :=
  denRow_apply th 1 _ _ (loaded_row th x1 h 1 _) (den1_apply th x1 h) j
/-- The same after three layers. -/
theorem den3_apply (j : Fin 4096) : den3 x1 (ix2 0 j) = ((den th 3 j : ℝ) : EReal) :=
  denRow_apply th 2 _ _ (loaded_row th x1 h 2 _) (den2_apply th x1 h) j
/-- The same after four layers. -/
theorem den4_apply (j : Fin 4096) : den4 x1 (ix2 0 j) = ((den th 4 j : ℝ) : EReal) :=
  denRow_apply th 3 _ _ (loaded_row th x1 h 3 _) (den3_apply th x1 h) j
/-- The same after all five. -/
theorem den5_apply (j : Fin 4096) : den5 x1 (ix2 0 j) = ((den th 5 j : ℝ) : EReal) :=
  denRow_apply th 4 _ _ (loaded_row th x1 h 4 _) (den4_apply th x1 h) j

/-- The first launch's last row is the product of the last five layers' cosines. -/
theorem out0_4_apply (x0 : Vec Ideal S7x32x128 .f32) (j : Fin 4096) :
    out0_4 x0 x1 (ix2 0 j) = ((den th 5 j : ℝ) : EReal) := by
  rw [out0_4_eq, View.canon_cons_unit_lit _ _ _ (by decide)]
  exact den5_apply th x1 h j

/-- A stored row of the table agrees with the partner factors, at the row's place in the table. -/
theorem piece_row (k : Fin 5) (inb) (w : FVec Ideal S1x4096 .f32)
    (hw : ∀ j : Fin 4096, w (ix2 0 j) = ((tab th k j : ℝ) : EReal))
    (x : (Rect.unit (s := S5x4096) ![k.val, 0] S1x4096.size inb).shape.Idx) :
    w x = (fun y : S5x4096.Idx => ((tab th (y 0).val (y 1).val : ℝ) : EReal)) ((Rect.unit (s := S5x4096) ![k.val, 0] S1x4096.size inb).emb x) := by
  have e : x = ix2 (n0 := 1) (n1 := 4096) 0 (x 1) := by
    funext a
    match a with
    | ⟨0, _⟩ => exact Subsingleton.elim (α := Fin 1) _ _
    | ⟨1, _⟩ => rfl
  have e0 : (((Rect.unit (s := S5x4096) ![k.val, 0] S1x4096.size inb).emb x) 0).val = k.val := by
    refine (ValueKit.rect_emb_unit_val _ _ inb x 0).trans ?_
    have : (x 0).val < 1 := (x 0).2
    show k.val + (x 0).val = k.val
    omega
  have e1 : (((Rect.unit (s := S5x4096) ![k.val, 0] S1x4096.size inb).emb x) 1).val = (x 1).val :=
    (ValueKit.rect_emb_unit_val _ _ inb x 1).trans (Nat.zero_add _)
  show w x = ((tab th _ _ : ℝ) : EReal)
  rw [e0, e1, e]
  exact hw (x 1)

/-- The first launch's table holds the partner factors. -/
theorem out0_3_apply (hc : ∀ k < 5, ∀ j < 4096, Real.cos (th (7 + k) j) ≠ 0) (x0 : Vec Ideal S7x32x128 .f32) (k : Fin 5) (j : Fin 4096) :
    out0_3 x0 x1 (ix2 k j) = ((tab th k j : ℝ) : EReal) := by
  rw [out0_3_eq]
  refine View.canon_apply_of_pieces (Val := Elt Ideal) (e := .f32) (fun y : S5x4096.Idx => ((tab th (y 0).val (y 1).val : ℝ) : EReal)) _ (fun p hp => ?_) (ix2 k j)
    (cover0_3 _ _ _ _ _ _)
  simp only [List.mem_cons, List.not_mem_nil, or_false] at hp
  rcases hp with rfl | rfl | rfl | rfl | rfl
  · exact piece_row th x1 h 4 (by decide) _ (tabRow_apply th 4 2 rfl _ rfl _ _ hc (loaded_row th x1 h 4 _) (den4_apply th x1 h))
  · exact piece_row th x1 h 3 (by decide) _ (tabRow_apply th 3 4 rfl _ rfl _ _ hc (loaded_row th x1 h 3 _) (den3_apply th x1 h))
  · exact piece_row th x1 h 2 (by decide) _ (tabRow_apply th 2 8 rfl _ rfl _ _ hc (loaded_row th x1 h 2 _) (den2_apply th x1 h))
  · exact piece_row th x1 h 1 (by decide) _ (tabRow_apply th 1 16 rfl _ rfl _ _ hc (loaded_row th x1 h 1 _) (den1_apply th x1 h))
  · exact piece_row th x1 h 0 (by decide) _ (tabRow_apply th 0 32 rfl _ rfl _ _ hc (loaded_row th x1 h 0 _) (den0_apply th x1 h))

end

end Cert.Tables

end
-- ==== Proof.ApplyValue.lean ====
/- What the second launch leaves, as reals: twelve layers of rotations of the block's rows. -/
module

public import proofs.«01_k».proof.Proof.Apply
public import proofs.«01_k».proof.Proof.TablesValue

@[expose] public section

set_option maxRecDepth 16384

noncomputable section

namespace Cert.Apply

open Idealize.ShloMosaic Cert.KernelIdeal Cert.KernelIdeal.Gen Cert.KernelIdeal.Facts Cert.Chunks Cert.Rotation

/-- A product with one group's matrix, read at an element, is a sum over the group's columns. -/
theorem dot_apply (a : FVec Ideal S512x128 .f32) (b : FVec Ideal S1x128x128 .f32) (r : Fin 512) (j : Fin 128) :
    matmul dot_S512x128_S128x128_S512x128_1_0_0_1_n_n none a (shapeCast S128x128 b shapeCasts_S1x128x128_S128x128)
      (constant S512x128 .f32 0x00000000#32) (ix2 r j) = ∑ i : Fin 128, a (ix2 r i) * b (ix3 0 i j) := by
  pointwise

/-- The same for group `g` of the block. -/
theorem dotBlk_apply (x : FVec Ideal S512x4096 .f32) (m : Vec Ideal S32x128x128 .f32) (g : Fin 32) (r : Fin 512) (j : Fin 128) :
    dotBlk x m g (ix2 r j) = ∑ i : Fin 128, piece 512 32 128 rfl x g g.2 (ix2 r i) *
      (View.ld m (Rect.unit (s := S32x128x128) ![g, 0, 0] S1x128x128.size (group_inb g g.2)) : Vec Ideal S1x128x128 .f32) (ix3 0 i j) :=
  dot_apply _ _ r j

/-- A piece after one layer, read at an element: the column's value plus its partner's times the factor. -/
theorem mixBlk_apply (n w : ℕ) (h : n * w = 4096) (h2 : n % 2 = 0) (y : FVec Ideal S512x4096 .f32) (t : FVec Ideal S1x4096 .f32) (k : Fin n)
    (r : Fin 512) (i : Fin w) :
    mixBlk n w h h2 y t k (ix2 r i) = piece 512 n w h y k k.2 (ix2 r i) +
      piece 512 n w h y (mate k) (mate_lt h2 k.2) (ix2 r i) * piece 1 n w h t k k.2 (ix2 0 i) := by
  pointwise [mixBlk]
  congr 3
  funext a
  match a with
  | ⟨0, _⟩ => rfl
  | ⟨1, _⟩ =>
    refine Fin.ext ?_
    show (if h : w = 1 then (⟨0, _⟩ : Fin w) else ⟨i.val, _⟩).val = i.val
    split_ifs with h
    · have := i.2; show 0 = _; omega
    · rfl

/-- The last multiplication, read at an element. -/
theorem scaled_apply (a : FVec Ideal S512x4096 .f32) (b : FVec Ideal S1x4096 .f32) (r : Fin 512) (j : Fin 4096) :
    mulf a (broadcastTo S512x4096 b broadcasts_S1x4096_S512x4096) (ix2 r j) = a (ix2 r j) * b (ix2 0 j) := by
  pointwise

/-- The rows of a block, as reals. -/
def Rows (X : ℕ → ℕ → ℝ) (y : FVec Ideal S512x4096 .f32) : Prop :=
  ∀ (r : Fin 512) (j : Fin 4096), y (ix2 r j) = ((X r j : ℝ) : EReal)

/-- The first seven layers: the products of the matrices. -/
theorem y7_rows (th : ℕ → ℕ → ℝ) (X : ℕ → ℕ → ℝ) (x0 : Vec Ideal S512x4096 .f32) (x1 : Vec Ideal S32x128x128 .f32) (hX : Rows X x0)
    (hM : ∀ (g : Fin 32) (i j : Fin 128), x1 (ix3 g i j) = ((prod th g 6 i j : ℝ) : EReal)) :
    Rows (fun r => rot th 7 (X r)) (y7 x0 x1) := fun r j => by
  have hg : j.val / 128 < 32 := by have := j.2; omega
  have hm := Nat.div_add_mod j.val 128
  unfold y7
  rw [glue_apply 512 32 128 rfl _ (by decide), dotBlk_apply]
  show _ = ((rot th 7 (X r) j.val : ℝ) : EReal)
  conv_rhs => rw [← hm, ← sum_prod th (j.val / 128) (X r) 6 (by decide) (j.val % 128) (Nat.mod_lt _ (by decide)), ← Cert.Tables.coe_sum]
  refine Finset.sum_congr rfl fun i _ => ?_
  rw [EReal.coe_mul]
  congr 1
  · rw [piece_apply 512 32 128 rfl _ _ _ r i (by have := i.2; dsimp only; omega), View.ld_unit_lit _ _ (by decide), hX]
    simp only [Nat.mul_comm]
  · rw [← hM ⟨j.val / 128, hg⟩ i ⟨j.val % 128, Nat.mod_lt _ (by decide)⟩]
    refine View.ld_unit_apply_of _ _ _ _ _ _ fun a => ?_
    match a with
    | ⟨0, _⟩ => rfl
    | ⟨1, _⟩ => exact (Nat.zero_add _).symm
    | ⟨2, _⟩ => exact (Nat.zero_add _).symm

/-- A layer of the last five: each column plus its partner times the factor. -/
theorem mix_rows (l n : ℕ) (hl : l < 12) (h : n * 2 ^ l = 4096) (h1 : 2 ≤ n) (h2 : n % 2 = 0) (Y : ℕ → ℕ → ℝ) (f : ℕ → ℝ)
    (y : FVec Ideal S512x4096 .f32) (t : FVec Ideal S1x4096 .f32) (hY : Rows Y y) (ht : ∀ j : Fin 4096, t (ix2 0 j) = ((f j : ℝ) : EReal)) :
    Rows (fun r j => Y r j + Y r (part l j) * f j) (mix n (2 ^ l) h h1 h2 y t) := fun r j => by
  have e : mate (j.val / 2 ^ l) * 2 ^ l + j.val % 2 ^ l = part l j := mate_column l j
  have e' : j.val / 2 ^ l * 2 ^ l + j.val % 2 ^ l = j.val := Nat.div_add_mod' _ _
  have hp := part_lt_big hl j.2
  unfold mix
  rw [glue_apply 512 n (2 ^ l) h h1 (by positivity), mixBlk_apply,
    piece_apply 512 n (2 ^ l) h _ _ _ r _ (by rw [e']; exact j.2), piece_apply 512 n (2 ^ l) h _ _ _ r _ (by rw [e]; exact hp),
    piece_apply 1 n (2 ^ l) h _ _ _ 0 _ (by rw [e']; exact j.2), hY, hY, ht, EReal.coe_add, EReal.coe_mul]
  simp only [e, e']

/-- A load of a row of the table. -/
theorem loaded_tab (th : ℕ → ℕ → ℝ) (x2 : Vec Ideal S5x4096 .f32)
    (hT : ∀ (k : Fin 5) (j : Fin 4096), x2 (ix2 k j) = ((tab th k j : ℝ) : EReal)) (k : Fin 5) (inb) (j : Fin 4096) :
    row (F := Ideal) (View.ld x2 (Rect.unit (s := S5x4096) ![k.val, 0] S1x4096.size inb)) (ix2 0 j) = ((tab th k j : ℝ) : EReal) := by
  refine (Cert.Tables.row_apply _ j).trans ?_
  rw [← hT k j]
  refine View.ld_unit_apply_of _ _ _ _ _ _ fun a => ?_
  match a with
  | ⟨0, _⟩ => rfl
  | ⟨1, _⟩ => exact (Nat.zero_add _).symm

/-- The block the second launch stores: all twelve layers of the block it reads. -/
theorem out1_4_rows (th : ℕ → ℕ → ℝ) (X : ℕ → ℕ → ℝ) (x0 : Vec Ideal S512x4096 .f32) (x1 : Vec Ideal S32x128x128 .f32)
    (x2 : Vec Ideal S5x4096 .f32) (x3 : Vec Ideal S1x4096 .f32) (hX : Rows X x0)
    (hc : ∀ k < 5, ∀ j < 4096, Real.cos (th (7 + k) j) ≠ 0)
    (hM : ∀ (g : Fin 32) (i j : Fin 128), x1 (ix3 g i j) = ((prod th g 6 i j : ℝ) : EReal))
    (hT : ∀ (k : Fin 5) (j : Fin 4096), x2 (ix2 k j) = ((tab th k j : ℝ) : EReal))
    (hD : ∀ j : Fin 4096, x3 (ix2 0 j) = ((den th 5 j : ℝ) : EReal)) :
    Rows (fun r => rot th 12 (X r)) (out1_4 x0 x1 x2 x3) := fun r j => by
  rw [out1_4_eq, View.canon_cons_unit_lit _ _ _ (by decide)]
  have s7 := y7_rows th X x0 x1 hX hM
  have s8 := mix_rows 7 32 (by decide) rfl (by decide) rfl _ _ _ _ s7 (loaded_tab th x2 hT 0 (by decide))
  have s9 := mix_rows 8 16 (by decide) rfl (by decide) rfl _ _ _ _ s8 (loaded_tab th x2 hT 1 (by decide))
  have s10 := mix_rows 9 8 (by decide) rfl (by decide) rfl _ _ _ _ s9 (loaded_tab th x2 hT 2 (by decide))
  have s11 := mix_rows 10 4 (by decide) rfl (by decide) rfl _ _ _ _ s10 (loaded_tab th x2 hT 3 (by decide))
  have s12 := mix_rows 11 2 (by decide) rfl (by decide) rfl _ _ _ _ s11 (loaded_tab th x2 hT 4 (by decide))
  have e : row (F := Ideal) (View.ld x3 r1_38) (ix2 0 j) = ((den th 5 j : ℝ) : EReal) := by
    refine (Cert.Tables.row_apply _ j).trans ?_
    rw [View.ld_unit_lit _ _ (by decide)]
    exact hD j
  have hy : y12 x0 x1 x2 (ix2 r j) = ((unscaled th (rot th 7 (X r)) 5 j : ℝ) : EReal) := s12 r j
  rw [scaled_apply, hy, e, ← EReal.coe_mul]
  exact congrArg _ (unscaled_mul_den th (X r) hc 5 (le_refl _) j.val j.2)

end Cert.Apply

end
-- ==== Proof.KernelValue.lean ====
/- What the kernel's result array holds at the end: every row of `x`, rotated by all twelve layers. -/
module

public import proofs.«01_k».proof.Proof.Angles
public import proofs.«01_k».proof.Proof.ApplyValue

@[expose] public section

set_option maxRecDepth 16384

noncomputable section

namespace Cert.KernelValue

open Idealize.ShloMosaic Idealize.ShloMosaic.TcCoe Idealize.SL Idealize.SL.Sem
open Cert.KernelIdeal Cert.KernelIdeal.Gen Cert.KernelIdeal.Facts Cert.Rotation Cert.Tables Cert.Apply

/-- A column's pair is one of the 2048. -/
theorem pairOf_lt {l j : ℕ} (hl : l < 12) (hj : j < 4096) : pairOf l j < 2048 := by
  have hs : 0 < 2 ^ l := by positivity
  have hn : 2 ^ (11 - l) * 2 ^ (l + 1) = 4096 := by
    rw [← pow_add, show 11 - l + (l + 1) = 12 by omega]
    norm_num
  have hn' : 2 ^ (11 - l) * 2 ^ l = 2048 := by
    rw [← pow_add, show 11 - l + l = 11 by omega]
    norm_num
  have hq : j / 2 ^ (l + 1) < 2 ^ (11 - l) := Nat.div_lt_of_lt_mul (by rw [Nat.mul_comm, hn]; exact hj)
  have hr : j % 2 ^ l < 2 ^ l := Nat.mod_lt _ hs
  unfold pairOf
  calc _ < j / 2 ^ (l + 1) * 2 ^ l + 2 ^ l := by omega
    _ = (j / 2 ^ (l + 1) + 1) * 2 ^ l := by ring
    _ ≤ 2 ^ (11 - l) * 2 ^ l := Nat.mul_le_mul_right _ hq
    _ = 2048 := hn'

variable (m : (ℓ : Loc nD τ sig) → Buf (Elt Ideal) ℓ) (ρ : Dev nD → PrngReg) (c : Dev nD)

/-- The angles the memory starts with, as reals. -/
def AnglesAre (a : ℕ → ℕ → ℝ) : Prop :=
  ∀ (l : Fin 12) (p : Fin 2048), m ((c : Thread nD τ).loc main_arg1) (ix2 l p) = ((a l p : ℝ) : EReal)

/-- The angle of a column in a layer. -/
def angle (a : ℕ → ℕ → ℝ) (l j : ℕ) : ℝ := a l (pairOf l j)

/-- The first launch's windows all lie at the start of their arrays. -/
theorem at0_0 : ∀ t : Fin grid0.N, win0_0.index t = ![0, 0, 0] := by decide +kernel
/-- See `at0_0`. -/
theorem at0_1 : ∀ t : Fin grid0.N, win0_1.index t = ![0, 0] := by decide +kernel
/-- See `at0_0`. -/
theorem at0_2 : ∀ t : Fin grid0.N, win0_2.index t = ![0, 0, 0] := by decide +kernel
/-- See `at0_0`. -/
theorem at0_3 : ∀ t : Fin grid0.N, win0_3.index t = ![0, 0] := by decide +kernel
/-- See `at0_0`. -/
theorem at0_4 : ∀ t : Fin grid0.N, win0_4.index t = ![0, 0] := by decide +kernel

/-- The first launch reads the angles of the first seven layers. -/
theorem small_angles (a : ℕ → ℕ → ℝ) (h : AnglesAre m c a) (t : Fin cfg0.N) : SmallAngles (angle a) (iblk0 (V1 m ρ) c 0 t) := by
  intro l g j
  have hj : 128 * g.val + j.val < 4096 := by have := g.2; have := j.2; omega
  have hl : l.val < 12 := by have := l.2; omega
  have e : iblk0 (V1 m ρ) c 0 t (ix3 l g j) = V1 m ρ c main_v74 (ix3 l g j) := by
    blk_ext [iblk0, at0_0 t]
  rw [e]
  show StableHlo.after hostOps0 (W0 m ρ c) (Proc.devRef .tc main_v74) (ix3 l g j) = _
  rw [Angles.small_eq]
  exact (Angles.small_apply _ l g j hl (pairOf_lt hl hj)).trans (h ⟨l, hl⟩ ⟨_, pairOf_lt hl hj⟩)

/-- The first launch reads the angles of the last five layers. -/
theorem big_angles (a : ℕ → ℕ → ℝ) (h : AnglesAre m c a) (t : Fin cfg0.N) : BigAngles (angle a) (iblk0 (V1 m ρ) c 1 t) := by
  intro l j
  have hl : 7 + l.val < 12 := by have := l.2; omega
  have e : iblk0 (V1 m ρ) c 1 t (ix2 l j) = V1 m ρ c main_v75 (ix2 l j) := by
    blk_ext [iblk0, at0_1 t]
  rw [e]
  show StableHlo.after hostOps0 (W0 m ρ c) (Proc.devRef .tc main_v75) (ix2 l j) = _
  rw [Angles.big_eq]
  exact (Angles.big_apply _ l j hl (pairOf_lt hl j.2)).trans (h ⟨_, hl⟩ ⟨_, pairOf_lt hl j.2⟩)

/-- The matrices, after the first launch. -/
theorem products (a : ℕ → ℕ → ℝ) (h : AnglesAre m c a) (g : Fin 32) (i j : Fin 128) :
    V2 m ρ c main_v76_0 (ix3 g i j) = ((prod (angle a) g 6 i j : ℝ) : EReal) := by
  have e : (dat0 (V1 m ρ) c).arrAt 2 cfg0.N = fun y : S32x128x128.Idx => ((prod (angle a) (y 0).val 6 (y 1).val (y 2).val : ℝ) : EReal) := by
    refine (dat0 (V1 m ρ) c).arrAt_eq_of_covers 2 _ (by decide +kernel) fun t hf y => ?_
    rw [after0_2]
    blk_simp [at0_2 t]
    have hy : y = ix3 (n0 := 32) (n1 := 128) (n2 := 128) (y 0) (y 1) (y 2) := by
      funext k
      match k with
      | ⟨0, _⟩ => rfl
      | ⟨1, _⟩ => rfl
      | ⟨2, _⟩ => rfl
    rw [hy]
    refine (out0_2_apply (angle a) _ _ (small_angles m ρ c a h t) (y 0) (y 1) (y 2)).trans ?_
    simp [ix3]
  exact (congrFun ((W2_arr m ρ c 2).trans e) (ix3 g i j))

/-- The table of partner factors, after the first launch. -/
theorem factors (a : ℕ → ℕ → ℝ) (h : AnglesAre m c a) (hc : ∀ k < 5, ∀ j < 4096, Real.cos (angle a (7 + k) j) ≠ 0) (k : Fin 5) (j : Fin 4096) :
    V2 m ρ c main_v76_1 (ix2 k j) = ((tab (angle a) k j : ℝ) : EReal) := by
  have e : (dat0 (V1 m ρ) c).arrAt 3 cfg0.N = fun y : S5x4096.Idx => ((tab (angle a) (y 0).val (y 1).val : ℝ) : EReal) := by
    refine (dat0 (V1 m ρ) c).arrAt_eq_of_covers 3 _ (by decide +kernel) fun t hf y => ?_
    rw [after0_3]
    blk_simp [at0_3 t]
    have hy : y = ix2 (n0 := 5) (n1 := 4096) (y 0) (y 1) := by
      funext k
      match k with
      | ⟨0, _⟩ => rfl
      | ⟨1, _⟩ => rfl
    rw [hy]
    refine (out0_3_apply (angle a) _ (big_angles m ρ c a h t) hc _ (y 0) (y 1)).trans ?_
    simp [ix2]
  exact (congrFun ((W2_arr m ρ c 3).trans e) (ix2 k j))

/-- The products of the cosines, after the first launch. -/
theorem cosines (a : ℕ → ℕ → ℝ) (h : AnglesAre m c a) (j : Fin 4096) :
    V2 m ρ c main_v76_2 (ix2 0 j) = ((den (angle a) 5 j : ℝ) : EReal) := by
  have e : (dat0 (V1 m ρ) c).arrAt 4 cfg0.N = fun y : S1x4096.Idx => ((den (angle a) 5 (y 1).val : ℝ) : EReal) := by
    refine (dat0 (V1 m ρ) c).arrAt_eq_of_covers 4 _ (by decide +kernel) fun t hf y => ?_
    rw [after0_4]
    blk_simp [at0_4 t]
    have hy : y = ix2 (n0 := 1) (n1 := 4096) 0 (y 1) := by
      funext k
      match k with
      | ⟨0, _⟩ => exact Subsingleton.elim (α := Fin 1) _ _
      | ⟨1, _⟩ => rfl
    rw [hy]
    refine (out0_4_apply (angle a) _ (big_angles m ρ c a h t) _ (y 1)).trans ?_
    simp [ix2]
  exact (congrFun ((W2_arr m ρ c 4).trans e) (ix2 0 j))

/-! ## The second launch -/

/-- The second launch's step `t` reads block `t` of the rows. -/
theorem at1_0 : ∀ t : Fin grid1.N, win1_0.index t = ![t.val, 0] := by decide +kernel
/-- The matrices are read whole at every step. -/
theorem at1_1 : ∀ t : Fin grid1.N, win1_1.index t = ![0, 0, 0] := by decide +kernel
/-- The partner factors are read whole at every step. -/
theorem at1_2 : ∀ t : Fin grid1.N, win1_2.index t = ![0, 0] := by decide +kernel
/-- The products of cosines are read whole at every step. -/
theorem at1_3 : ∀ t : Fin grid1.N, win1_3.index t = ![0, 0] := by decide +kernel
/-- The second launch's step `t` writes block `t` of the rows. -/
theorem at1_4 : ∀ t : Fin grid1.N, win1_4.index t = ![t.val, 0] := by decide +kernel

/-- The data the memory starts with, as reals. -/
def DataAre (X : ℕ → ℕ → ℝ) : Prop :=
  ∀ (r : Fin 8192) (j : Fin 4096), m ((c : Thread nD τ).loc main_arg0) (ix2 r j) = ((X r j : ℝ) : EReal)

/-- Step `t` reads rows `512 t` to `512 t + 511` of the data. -/
theorem block_rows (X : ℕ → ℕ → ℝ) (hX : DataAre m c X) (t : Fin cfg1.N) : Rows (fun r => X (512 * t.val + r)) (iblk1 (V2 m ρ) c 0 t) :=
  fun r j => by
  have ht : t.val < 16 := t.2
  have hr : 512 * t.val + r.val < 8192 := by have := r.2; omega
  rw [← hX ⟨_, hr⟩ j, ← W2_args m ρ c main_arg0 (by decide)]
  blk_ext [iblk1, at1_0 t]

/-- Every step reads the products of the first seven layers' matrices. -/
theorem block_products (a : ℕ → ℕ → ℝ) (h : AnglesAre m c a) (t : Fin cfg1.N) (g : Fin 32) (i j : Fin 128) :
    iblk1 (V2 m ρ) c 1 t (ix3 g i j) = ((prod (angle a) g 6 i j : ℝ) : EReal) := by
  rw [← products m ρ c a h g i j]
  blk_ext [iblk1, at1_1 t]

/-- Every step reads the partner factors of the last five layers. -/
theorem block_factors (a : ℕ → ℕ → ℝ) (h : AnglesAre m c a) (hc : ∀ k < 5, ∀ j < 4096, Real.cos (angle a (7 + k) j) ≠ 0) (t : Fin cfg1.N)
    (k : Fin 5) (j : Fin 4096) : iblk1 (V2 m ρ) c 2 t (ix2 k j) = ((tab (angle a) k j : ℝ) : EReal) := by
  rw [← factors m ρ c a h hc k j]
  blk_ext [iblk1, at1_2 t]

/-- Every step reads the products of the last five layers' cosines. -/
theorem block_cosines (a : ℕ → ℕ → ℝ) (h : AnglesAre m c a) (t : Fin cfg1.N) (j : Fin 4096) :
    iblk1 (V2 m ρ) c 3 t (ix2 0 j) = ((den (angle a) 5 j : ℝ) : EReal) := by
  rw [← cosines m ρ c a h j]
  blk_ext [iblk1, at1_3 t]

/-- The kernel's result: every row rotated by the twelve layers. -/
theorem result (a X : ℕ → ℕ → ℝ) (h : AnglesAre m c a) (hX : DataAre m c X)
    (hc : ∀ k < 5, ∀ j < 4096, Real.cos (angle a (7 + k) j) ≠ 0) :
    W3 m ρ c (Proc.devRef .tc main_v77) = fun y : S8192x4096.Idx => ((rot (angle a) 12 (X (y 0).val) (y 1).val : ℝ) : EReal) := by
  have e : (dat1 (V2 m ρ) c).arrAt 4 cfg1.N = fun y : S8192x4096.Idx => ((rot (angle a) 12 (X (y 0).val) (y 1).val : ℝ) : EReal) := by
    refine (dat1 (V2 m ρ) c).arrAt_eq_of_covers 4 _ (by decide +kernel) fun t hf y => ?_
    rw [after1_4]
    blk_simp [at1_4 t]
    have hy : y = ix2 (n0 := 512) (n1 := 4096) (y 0) (y 1) := by
      funext k
      match k with
      | ⟨0, _⟩ => rfl
      | ⟨1, _⟩ => rfl
    rw [hy]
    refine (out1_4_rows (angle a) _ _ _ _ _ (block_rows m ρ c X hX t) hc (block_products m ρ c a h t)
      (block_factors m ρ c a h hc t) (block_cosines m ρ c a h t) (y 0) (y 1)).trans ?_
    simp [ix2, Nat.mul_comm]
  exact (W3_arr m ρ c 4).trans e

end Cert.KernelValue

end
-- ==== Proof.KernelRun.lean ====
/- The kernel's run: it ends, its result array holds what the second launch leaves, and its arguments are as they were.
   The launch's set-up is that of the frame claim, with the result array read as well. -/
module

public import proofs.«01_k».proof.Proof.KernelValue

@[expose] public section

set_option maxRecDepth 16384

noncomputable section

namespace Cert.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array. -/
theorem run : θ_run defs (onTc (τ := τ) (main (F := F))) ⟨m, fun _ => 0, ρ⟩ (fun r => ∀ c : Dev nD,
      r.2.mem ((c.tc : Thread nD τ).loc main_v77) = W3 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v77 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelValue

end
-- ==== Proof.RefChain.lean ====
/- The reference's twelve layers, one after the other: what its result array holds. -/
module

public import proofs.«01_k».proof.Proof.Gen.ReferenceIdeal.Run
public import proofs.«01_k».proof.Proof.RefLayer

@[expose] public section

set_option maxRecDepth 16384

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value Cert.Rotation

/-- Row `l` lies within the table. -/
theorem slices_row (l : Fin 12) : S12x2048.Slices ![l.val, 0] S1x2048 := by
  revert l
  decide

/-- Row `l` of a table. -/
def rowOf {α : Type} (v : S12x2048.Idx → α) (l : Fin 12) : S2048.Idx → α :=
  shapeCast _ (extractStridedSlice S1x2048 ![l.val, 0] v (slices_row l)) shapeCasts_S1x2048_S2048

/-- Its element `p` is the table's at `(l, p)`. -/
theorem rowOf_apply {α : Type} (v : S12x2048.Idx → α) (l : Fin 12) (p : Fin 2048) : rowOf v l (ix1 p) = v (ix2 l p) := by
  unfold rowOf
  pointwise

section
variable {F : FTy → Type} [FloatOps F] (V : Valuation τ sig (Elt F))

/-- Layer `l` of the program on the array `y`, with the tables the program is given. -/
def layerOf (l : Fin 12) (y : FVec F S8192x4096 .f32) : FVec F S8192x4096 .f32 :=
  stepR y (rowOf (V (Proc.devRef .tc main_arg2)) l) (rowOf (V (Proc.devRef .tc main_arg3)) l) (rowOf (V (Proc.devRef .tc main_arg1)) l)

/-- Layer 0 of the program is that layer on its argument. -/
theorem layer_0 : res_main_v37 V = layerOf V 0 (V (Proc.devRef .tc main_arg0)) := rfl
/-- Layer 1 of the program is that layer on the array before it. -/
theorem layer_1 : res_main_v75 V = layerOf V 1 (res_main_v37 V) := rfl
/-- Layer 2 of the program is that layer on the array before it. -/
theorem layer_2 : res_main_v113 V = layerOf V 2 (res_main_v75 V) := rfl
/-- Layer 3 of the program is that layer on the array before it. -/
theorem layer_3 : res_main_v151 V = layerOf V 3 (res_main_v113 V) := rfl
/-- Layer 4 of the program is that layer on the array before it. -/
theorem layer_4 : res_main_v189 V = layerOf V 4 (res_main_v151 V) := rfl
/-- Layer 5 of the program is that layer on the array before it. -/
theorem layer_5 : res_main_v227 V = layerOf V 5 (res_main_v189 V) := rfl
/-- Layer 6 of the program is that layer on the array before it. -/
theorem layer_6 : res_main_v265 V = layerOf V 6 (res_main_v227 V) := rfl
/-- Layer 7 of the program is that layer on the array before it. -/
theorem layer_7 : res_main_v303 V = layerOf V 7 (res_main_v265 V) := rfl
/-- Layer 8 of the program is that layer on the array before it. -/
theorem layer_8 : res_main_v341 V = layerOf V 8 (res_main_v303 V) := rfl
/-- Layer 9 of the program is that layer on the array before it. -/
theorem layer_9 : res_main_v379 V = layerOf V 9 (res_main_v341 V) := rfl
/-- Layer 10 of the program is that layer on the array before it. -/
theorem layer_10 : res_main_v417 V = layerOf V 10 (res_main_v379 V) := rfl

/-- The run, with the last layer in this form. -/
theorem run_layers (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v455) = layerOf (launchContents m c) 11 (res_main_v417 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end

/-! ## The values -/

/-- The tables are the butterfly's, and the angles are real. -/
structure Tables (V : Valuation τ sig (Elt Ideal)) (a : ℕ → ℕ → ℝ) : Prop where
  angle : ∀ (l : Fin 12) (p : Fin 2048), (V (Proc.devRef .tc main_arg1) : FVec Ideal S12x2048 .f32) (ix2 l p) = ((a l p : ℝ) : EReal)
  left : ∀ (l : Fin 12) (p : Fin 2048), (V (Proc.devRef .tc main_arg2) : IVec S12x2048 32) (ix2 l p) = BitVec.ofNat 32 (leftOf l p)
  right : ∀ (l : Fin 12) (p : Fin 2048), (V (Proc.devRef .tc main_arg3) : IVec S12x2048 32) (ix2 l p) = BitVec.ofNat 32 (leftOf l p + 2 ^ l.val)

/-- The array `y` holds the rows `Y`. -/
def Holds (y : FVec Ideal S8192x4096 .f32) (Y : ℕ → ℕ → ℝ) : Prop :=
  ∀ (r : Fin 8192) (j : Fin 4096), y (ix2 r j) = ((Y r j : ℝ) : EReal)

/-- After one more layer the array holds the rows turned by one more layer. -/
theorem holds_layer {V : Valuation τ sig (Elt Ideal)} {a : ℕ → ℕ → ℝ} (h : Tables V a) (l : Fin 12) {y : FVec Ideal S8192x4096 .f32}
    {X : ℕ → ℕ → ℝ} (hy : Holds y fun r => rot (fun l j => a l (pairOf l j)) l.val (X r)) :
    Holds (layerOf V l y) fun r => rot (fun l j => a l (pairOf l j)) (l.val + 1) (X r) := fun r j =>
  stepR_apply l.val l.isLt y _ _ _ (fun r => rot (fun l j => a l (pairOf l j)) l.val (X r)) (a l.val) hy
    (fun p => by rw [rowOf_apply, h.left]) (fun p => by rw [rowOf_apply, h.right]) (fun p => by rw [rowOf_apply, h.angle]) r j

/-- The result array holds the rows turned by all twelve layers. -/
theorem holds_result {V : Valuation τ sig (Elt Ideal)} {a : ℕ → ℕ → ℝ} (h : Tables V a) {X : ℕ → ℕ → ℝ}
    (hX : Holds (V (Proc.devRef .tc main_arg0)) X) :
    Holds (layerOf V 11 (res_main_v417 V)) fun r => rot (fun l j => a l (pairOf l j)) 12 (X r) := by
  rw [layer_10, layer_9, layer_8, layer_7, layer_6, layer_5, layer_4, layer_3, layer_2, layer_1, layer_0]
  exact holds_layer h 11 (holds_layer h 10 (holds_layer h 9 (holds_layer h 8 (holds_layer h 7 (holds_layer h 6 (holds_layer h 5
    (holds_layer h 4 (holds_layer h 3 (holds_layer h 2 (holds_layer h 1 (holds_layer h 0 (y := V (Proc.devRef .tc main_arg0)) hX)))))))))))

end Cert.RefValue
-- ==== Proof.Equal.lean ====
/- Kernel and reference end with the same array: the rows of `x`, turned by the twelve layers. -/
module

public import proofs.«01_k».proof.Defs
public import proofs.«01_k».proof.Proof.Inputs
public import proofs.«01_k».proof.Proof.KernelRun
public import proofs.«01_k».proof.Proof.RefChain

@[expose] public section

set_option maxRecDepth 16384

noncomputable section

namespace Cert.Equal

open Idealize.ShloMosaic Idealize.ShloMosaic.TcCoe Idealize.SL.Sem Cert.Rotation

/-- The shape of the data. -/
abbrev SX : Shape := ⟨2, ![8192, 4096]⟩
/-- The shape of the tables. -/
abbrev ST : Shape := ⟨2, ![12, 2048]⟩

/-- A table of extended reals as a function of two numbers, zero outside the table. -/
def reals {A B : Nat} (v : (⟨2, ![A, B]⟩ : Shape).Idx → EReal) (i j : ℕ) : ℝ :=
  if h : i < A ∧ j < B then (v (ix2 (⟨i, h.1⟩ : Fin A) (⟨j, h.2⟩ : Fin B))).toReal else 0

/-- Within the table it is the element's real number. -/
theorem reals_apply {A B : Nat} (v : (⟨2, ![A, B]⟩ : Shape).Idx → EReal) (i : Fin A) (j : Fin B) : reals v i j = (v (ix2 i j)).toReal :=
  dif_pos ⟨i.isLt, j.isLt⟩

/-- The array that both programs end with. -/
def answer (x : SX.Idx → EReal) (t : ST.Idx → EReal) : SX.Idx → EReal :=
  fun y => ((rot (Cert.KernelValue.angle (reals t)) 12 (reals x (y 0).val) (y 1).val : ℝ) : EReal)

/-- On the arguments that the precondition allows, the kernel's result array is the answer. -/
theorem kernel_answer (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) {li ri : IVec Cert.Pre_butterfly_inputs.S12x2048 32}
    (h : Cert.Inputs.Good (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) li ri) :
    Cert.KernelIdeal.Gen.W3 m ρ c (Proc.devRef .tc Cert.KernelIdeal.main_v77)
      = answer (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  refine Cert.KernelValue.result m ρ c _ _ (fun l p => ?_) (fun r j => ?_) (fun k hk j hj => ?_)
  · rw [reals_apply]
    exact h.angle l p
  · rw [reals_apply]
    exact h.data r j
  · have hp := Cert.KernelValue.pairOf_lt (l := 7 + k) (by omega) hj
    have e := reals_apply (m ((c.tc : Thread Cert.KernelIdeal.nD Cert.KernelIdeal.τ).loc Cert.KernelIdeal.main_arg1) : ST.Idx → EReal)
      (⟨7 + k, by omega⟩ : Fin 12) (⟨pairOf (7 + k) j, hp⟩ : Fin 2048)
    show Real.cos (reals _ (7 + k) (pairOf (7 + k) j)) ≠ 0
    rw [e]
    exact h.cos ⟨k, hk⟩ ⟨_, hp⟩

/-- On the same arguments, the reference's result array is the answer. -/
theorem reference_answer (m : (ℓ : Loc Cert.ReferenceIdeal.nD Cert.ReferenceIdeal.τ Cert.ReferenceIdeal.sig) → Buf (Elt Ideal) ℓ)
    (c : Dev Cert.ReferenceIdeal.nD)
    (h : Cert.Inputs.Good (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))) :
    Cert.RefValue.layerOf (StableHlo.launchContents m c) 11 (Cert.ReferenceIdeal.Value.res_main_v417 (StableHlo.launchContents m c))
      = answer (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := by
  funext y
  obtain ⟨r, j, rfl⟩ : ∃ (r : Fin 8192) (j : Fin 4096), y = ix2 r j := ⟨y 0, y 1, (ix2_eta y).symm⟩
  refine Cert.RefValue.holds_result (V := StableHlo.launchContents m c)
    (a := reals (m ((c.tc : Thread Cert.ReferenceIdeal.nD Cert.ReferenceIdeal.τ).loc Cert.ReferenceIdeal.main_arg1) : ST.Idx → EReal))
    ⟨fun l p => ?_, h.left, h.right⟩
    (X := reals (m ((c.tc : Thread Cert.ReferenceIdeal.nD Cert.ReferenceIdeal.τ).loc Cert.ReferenceIdeal.main_arg0) : SX.Idx → EReal))
    (fun r j => ?_) r j
  · rw [reals_apply]
    exact h.angle l p
  · rw [reals_apply]
    exact h.data r j

/-- The algebraic claim. -/
theorem algebraic : Cert.algebraic_KernelIdeal_ReferenceIdeal_pre_butterfly_inputs (hKernelIdeal := Cert.KernelIdeal.Gen.facts)
    (hReferenceIdeal := Cert.ReferenceIdeal.Gen.facts) (hPre_butterfly_inputs := Cert.Inputs.facts) := by
  intro m ρ m' ρ' hpre hagree
  have hk := fun c => @Cert.Inputs.good Cert.Inputs.facts _ _ _ _ (hpre c)
  refine ⟨fun c => answer (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun r h c => ⟨(h c).1.trans (kernel_answer m ρ c (hk c)), (h c).2⟩)
      (Cert.KernelValue.run (F := Ideal) m ρ)
  · refine (θ_run Cert.ReferenceIdeal.defs _ _).mono (fun r h c => ⟨(h c).1.trans ?_, (h c).2⟩) (Cert.RefValue.run_layers (F := Ideal) m' ρ')
    have hc := hagree c
    rw [reference_answer m' c (by rw [hc.1, hc.2.1, hc.2.2.1, hc.2.2.2]; exact hk c), hc.1, hc.2.1]

end Cert.Equal
-- ==== Proof.lean ====
/- The certificate: the three programs' frames, the idealization, and the equality of kernel and reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.Equal

@[expose] public section

noncomputable section

namespace Cert.Proof

open Idealize.ShloMosaic Idealize.ShloMosaic.TcCoe Idealize.SL.Sem

/-- The reference runs, leaves its arguments as they were, and has no semaphore that could be left set. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3))
      ∧ r.2.sem = fun _ => 0 :=
  (θ_run Cert.ReferenceIdeal.defs _ _).mono (fun r h => ⟨fun c => (h c).2, sem_eq_zero_of_no_sems (by decide) r.2⟩)
    (Cert.RefValue.run_layers (F := Ideal) m ρ)

/-- Everything that the certificate claims. -/
theorem claim : Cert.Claim :=
  ⟨Cert.Kernel.Gen.facts, Cert.KernelIdeal.Gen.facts, Cert.ReferenceIdeal.Gen.facts, Cert.Inputs.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, Cert.Equal.algebraic⟩

end Cert.Proof

end
